-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v18)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v18) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v52) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v15_0)) (v1 : (c : Dev Cert.Kernel4Ideal.nD) → Buf (Elt Ideal) ((c.tc : Thread Cert.Kernel4Ideal.nD Cert.Kernel4Ideal.τ).loc Cert.Kernel4Ideal.main_v15_1)) (v2 : (c : Dev Cert.Kernel4Ideal.nD) → Buf (Elt Ideal) ((c.tc : Thread Cert.Kernel4Ideal.nD Cert.Kernel4Ideal.τ).loc Cert.Kernel4Ideal.main_v15_2)) (v3 : (c : Dev Cert.Kernel4Ideal.nD) → Buf (Elt Ideal) ((c.tc : Thread Cert.Kernel4Ideal.nD Cert.Kernel4Ideal.τ).loc Cert.Kernel4Ideal.main_v15_3)) (v4 : (c : Dev Cert.Kernel4Ideal.nD) → Buf (Elt Ideal) ((c.tc : Thread Cert.Kernel4Ideal.nD Cert.Kernel4Ideal.τ).loc Cert.Kernel4Ideal.main_v15_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15_0) = v0 c
          ∧ r.2.mem ((c.tc : Thread Cert.Kernel4Ideal.nD Cert.Kernel4Ideal.τ).loc Cert.Kernel4Ideal.main_v15_1) = v1 c
          ∧ r.2.mem ((c.tc : Thread Cert.Kernel4Ideal.nD Cert.Kernel4Ideal.τ).loc Cert.Kernel4Ideal.main_v15_2) = v2 c
          ∧ r.2.mem ((c.tc : Thread Cert.Kernel4Ideal.nD Cert.Kernel4Ideal.τ).loc Cert.Kernel4Ideal.main_v15_3) = v3 c
          ∧ r.2.mem ((c.tc : Thread Cert.Kernel4Ideal.nD Cert.Kernel4Ideal.τ).loc Cert.Kernel4Ideal.main_v15_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_v18) = v1 c
          ∧ r.2.mem ((c.tc : Thread Cert.Reference4Ideal.nD Cert.Reference4Ideal.τ).loc Cert.Reference4Ideal.main_v19) = v2 c
          ∧ r.2.mem ((c.tc : Thread Cert.Reference4Ideal.nD Cert.Reference4Ideal.τ).loc Cert.Reference4Ideal.main_v20) = v3 c
          ∧ r.2.mem ((c.tc : Thread Cert.Reference4Ideal.nD Cert.Reference4Ideal.τ).loc Cert.Reference4Ideal.main_v22) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v34_0)) (v1 : (c : Dev Cert.Kernel5Ideal.nD) → Buf (Elt Ideal) ((c.tc : Thread Cert.Kernel5Ideal.nD Cert.Kernel5Ideal.τ).loc Cert.Kernel5Ideal.main_v34_1)) (v2 : (c : Dev Cert.Kernel5Ideal.nD) → Buf (Elt Ideal) ((c.tc : Thread Cert.Kernel5Ideal.nD Cert.Kernel5Ideal.τ).loc Cert.Kernel5Ideal.main_v34_2)) (v3 : (c : Dev Cert.Kernel5Ideal.nD) → Buf (Elt Ideal) ((c.tc : Thread Cert.Kernel5Ideal.nD Cert.Kernel5Ideal.τ).loc Cert.Kernel5Ideal.main_v34_3)) (v4 : (c : Dev Cert.Kernel5Ideal.nD) → Buf (Elt Ideal) ((c.tc : Thread Cert.Kernel5Ideal.nD Cert.Kernel5Ideal.τ).loc Cert.Kernel5Ideal.main_v34_4)) (v5 : (c : Dev Cert.Kernel5Ideal.nD) → Buf (Elt Ideal) ((c.tc : Thread Cert.Kernel5Ideal.nD Cert.Kernel5Ideal.τ).loc Cert.Kernel5Ideal.main_v34_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v34_0) = v0 c
          ∧ r.2.mem ((c.tc : Thread Cert.Kernel5Ideal.nD Cert.Kernel5Ideal.τ).loc Cert.Kernel5Ideal.main_v34_1) = v1 c
          ∧ r.2.mem ((c.tc : Thread Cert.Kernel5Ideal.nD Cert.Kernel5Ideal.τ).loc Cert.Kernel5Ideal.main_v34_2) = v2 c
          ∧ r.2.mem ((c.tc : Thread Cert.Kernel5Ideal.nD Cert.Kernel5Ideal.τ).loc Cert.Kernel5Ideal.main_v34_3) = v3 c
          ∧ r.2.mem ((c.tc : Thread Cert.Kernel5Ideal.nD Cert.Kernel5Ideal.τ).loc Cert.Kernel5Ideal.main_v34_4) = v4 c
          ∧ r.2.mem ((c.tc : Thread Cert.Kernel5Ideal.nD Cert.Kernel5Ideal.τ).loc Cert.Kernel5Ideal.main_v34_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v120) = v0 c
          ∧ r.2.mem ((c.tc : Thread Cert.Reference5Ideal.nD Cert.Reference5Ideal.τ).loc Cert.Reference5Ideal.main_v121) = v1 c
          ∧ r.2.mem ((c.tc : Thread Cert.Reference5Ideal.nD Cert.Reference5Ideal.τ).loc Cert.Reference5Ideal.main_v122) = v2 c
          ∧ r.2.mem ((c.tc : Thread Cert.Reference5Ideal.nD Cert.Reference5Ideal.τ).loc Cert.Reference5Ideal.main_v124) = v3 c
          ∧ r.2.mem ((c.tc : Thread Cert.Reference5Ideal.nD Cert.Reference5Ideal.τ).loc Cert.Reference5Ideal.main_v125) = v4 c
          ∧ r.2.mem ((c.tc : Thread Cert.Reference5Ideal.nD Cert.Reference5Ideal.τ).loc Cert.Reference5Ideal.main_v127) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v42_0)) (v1 : (c : Dev Cert.Kernel6Ideal.nD) → Buf (Elt Ideal) ((c.tc : Thread Cert.Kernel6Ideal.nD Cert.Kernel6Ideal.τ).loc Cert.Kernel6Ideal.main_v42_1)) (v2 : (c : Dev Cert.Kernel6Ideal.nD) → Buf (Elt Ideal) ((c.tc : Thread Cert.Kernel6Ideal.nD Cert.Kernel6Ideal.τ).loc Cert.Kernel6Ideal.main_v42_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v42_0) = v0 c
          ∧ r.2.mem ((c.tc : Thread Cert.Kernel6Ideal.nD Cert.Kernel6Ideal.τ).loc Cert.Kernel6Ideal.main_v42_1) = v1 c
          ∧ r.2.mem ((c.tc : Thread Cert.Kernel6Ideal.nD Cert.Kernel6Ideal.τ).loc Cert.Kernel6Ideal.main_v42_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v113) = v0 c
          ∧ r.2.mem ((c.tc : Thread Cert.Reference6Ideal.nD Cert.Reference6Ideal.τ).loc Cert.Reference6Ideal.main_v114) = v1 c
          ∧ r.2.mem ((c.tc : Thread Cert.Reference6Ideal.nD Cert.Reference6Ideal.τ).loc Cert.Reference6Ideal.main_v115) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S512x1024 : Shape := ⟨2, ![512, 1024]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024x1024 : Shape := ⟨2, ![1024, 1024]⟩
abbrev S1x1024 : Shape := ⟨2, ![1, 1024]⟩
abbrev S1024 : Shape := ⟨1, ![1024]⟩
abbrev S1x1024x5632 : Shape := ⟨3, ![1, 1024, 5632]⟩
abbrev S1024x5632 : Shape := ⟨2, ![1024, 5632]⟩
abbrev S1024x2816 : Shape := ⟨2, ![1024, 2816]⟩
abbrev S1x2816x1024 : Shape := ⟨3, ![1, 2816, 1024]⟩
abbrev S2816x1024 : Shape := ⟨2, ![2816, 1024]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩

abbrev nBuf : Space → Nat
  | .hbm => 23
  | .vmem => 11
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S1x1024x1024, .f32⟩
  | .hbm, ⟨3, _⟩ => ⟨S2x1024, .f32⟩
  | .hbm, ⟨4, _⟩ => ⟨S2x1024x5632, .f32⟩
  | .hbm, ⟨5, _⟩ => ⟨S2x2816x1024, .f32⟩
  | .hbm, ⟨6, _⟩ => ⟨S1024x1024, .f32⟩
  | .hbm, ⟨7, _⟩ => ⟨S1024x1024, .bf16⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1x1024x5632, .f32⟩
  | .hbm, ⟨12, _⟩ => ⟨S1024x5632, .f32⟩
  | .hbm, ⟨13, _⟩ => ⟨S1024x2816, .f32⟩
  | .hbm, ⟨14, _⟩ => ⟨S1024x2816, .bf16⟩
  | .hbm, ⟨15, _⟩ => ⟨S1x1024x5632, .f32⟩
  | .hbm, ⟨16, _⟩ => ⟨S1024x5632, .f32⟩
  | .hbm, ⟨17, _⟩ => ⟨S1024x2816, .f32⟩
  | .hbm, ⟨18, _⟩ => ⟨S1024x2816, .bf16⟩
  | .hbm, ⟨19, _⟩ => ⟨S1x2816x1024, .f32⟩
  | .hbm, ⟨20, _⟩ => ⟨S2816x1024, .f32⟩
  | .hbm, ⟨21, _⟩ => ⟨S2816x1024, .bf16⟩
  | .hbm, ⟨22, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024x1024, .bf16⟩
  | .local _ .vmem, ⟨5, _⟩ => ⟨S1x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S256x1024, .f32⟩
  | .local _ .vmem, ⟨10, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S512x1024 : Shape := ⟨2, ![512, 1024]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024x1024 : Shape := ⟨2, ![1024, 1024]⟩
abbrev S1x1024 : Shape := ⟨2, ![1, 1024]⟩
abbrev S1024 : Shape := ⟨1, ![1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S_ : Shape := ⟨0, ![]⟩
abbrev S512 : Shape := ⟨1, ![512]⟩
abbrev S512x1 : Shape := ⟨2, ![512, 1]⟩
abbrev S512x5632 : Shape := ⟨2, ![512, 5632]⟩
abbrev S512x2816 : Shape := ⟨2, ![512, 2816]⟩

abbrev nBuf : Space → Nat
  | .hbm => 46
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S1x1024x1024, .f32⟩
  | .hbm, ⟨3, _⟩ => ⟨S2x1024, .f32⟩
  | .hbm, ⟨4, _⟩ => ⟨S2x1024x5632, .f32⟩
  | .hbm, ⟨5, _⟩ => ⟨S2x2816x1024, .f32⟩
  | .hbm, ⟨6, _⟩ => ⟨S1024x1024, .f32⟩
  | .hbm, ⟨7, _⟩ => ⟨S512x1024, .f32⟩
  | .hbm, ⟨8, _⟩ => ⟨S512x1024, .f32⟩
  | .hbm, ⟨9, _⟩ => ⟨S1x1024, .f32⟩
  | .hbm, ⟨10, _⟩ => ⟨S1024, .f32⟩
  | .hbm, ⟨11, _⟩ => ⟨S1x1024x5632, .f32⟩
  | .hbm, ⟨12, _⟩ => ⟨S1024x5632, .f32⟩
  | .hbm, ⟨13, _⟩ => ⟨S1x2816x1024, .f32⟩
  | .hbm, ⟨14, _⟩ => ⟨S2816x1024, .f32⟩
  | .hbm, ⟨15, _⟩ => ⟨S512x1024, .f32⟩
  | .hbm, ⟨16, _⟩ => ⟨S_, .f32⟩
  | .hbm, ⟨17, _⟩ => ⟨S512, .f32⟩
  | .hbm, ⟨18, _⟩ => ⟨S512x1, .f32⟩
  | .hbm, ⟨19, _⟩ => ⟨S_, .f32⟩
  | .hbm, ⟨20, _⟩ => ⟨S512x1, .f32⟩
  | .hbm, ⟨21, _⟩ => ⟨S512x1, .f32⟩
  | .hbm, ⟨22, _⟩ => ⟨S_, .f32⟩
  | .hbm, ⟨23, _⟩ => ⟨S512x1, .f32⟩
  | .hbm, ⟨24, _⟩ => ⟨S512x1, .f32⟩
  | .hbm, ⟨25, _⟩ => ⟨S512x1, .f32⟩
  | .hbm, ⟨26, _⟩ => ⟨S512x1024, .f32⟩
  | .hbm, ⟨27, _⟩ => ⟨S512x1024, .f32⟩
  | .hbm, ⟨28, _⟩ => ⟨S1x1024, .f32⟩
  | .hbm, ⟨29, _⟩ => ⟨S512x1024, .f32⟩
  | .hbm, ⟨30, _⟩ => ⟨S512x1024, .f32⟩
  | .hbm, ⟨31, _⟩ => ⟨S512x5632, .f32⟩
  | .hbm, ⟨32, _⟩ => ⟨S512x2816, .f32⟩
  | .hbm, ⟨33, _⟩ => ⟨S512x2816, .f32⟩
  | .hbm, ⟨34, _⟩ => ⟨S512x2816, .f32⟩
  | .hbm, ⟨35, _⟩ => ⟨S512x2816, .f32⟩
  | .hbm, ⟨36, _⟩ => ⟨S_, .f32⟩
  | .hbm, ⟨37, _⟩ => ⟨S512x2816, .f32⟩
  | .hbm, ⟨38, _⟩ => ⟨S512x2816, .f32⟩
  | .hbm, ⟨39, _⟩ => ⟨S_, .f32⟩
  | .hbm, ⟨40, _⟩ => ⟨S512x2816, .f32⟩
  | .hbm, ⟨41, _⟩ => ⟨S512x2816, .f32⟩
  | .hbm, ⟨42, _⟩ => ⟨S512x2816, .f32⟩
  | .hbm, ⟨43, _⟩ => ⟨S512x2816, .f32⟩
  | .hbm, ⟨44, _⟩ => ⟨S512x1024, .f32⟩
  | .hbm, ⟨45, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== Kernel2.lean ====
abbrev S16384x1024 : Shape := ⟨2, ![16384, 1024]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024x1024 : Shape := ⟨2, ![1024, 1024]⟩
abbrev S1x1024 : Shape := ⟨2, ![1, 1024]⟩
abbrev S1024 : Shape := ⟨1, ![1024]⟩
abbrev S1x1024x5632 : Shape := ⟨3, ![1, 1024, 5632]⟩
abbrev S1024x5632 : Shape := ⟨2, ![1024, 5632]⟩
abbrev S1024x2816 : Shape := ⟨2, ![1024, 2816]⟩
abbrev S1x2816x1024 : Shape := ⟨3, ![1, 2816, 1024]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 23
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024x1024, .f32⟩
  | .hbm, ⟨3, _⟩ => ⟨S2x1024, .f32⟩
  | .hbm, ⟨4, _⟩ => ⟨S2x1024x5632, .f32⟩
  | .hbm, ⟨5, _⟩ => ⟨S2x2816x1024, .f32⟩
  | .hbm, ⟨6, _⟩ => ⟨S1024x1024, .f32⟩
  | .hbm, ⟨7, _⟩ => ⟨S1024x1024, .bf16⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1x1024x5632, .f32⟩
  | .hbm, ⟨12, _⟩ => ⟨S1024x5632, .f32⟩
  | .hbm, ⟨13, _⟩ => ⟨S1024x2816, .f32⟩
  | .hbm, ⟨14, _⟩ => ⟨S1024x2816, .bf16⟩
  | .hbm, ⟨15, _⟩ => ⟨S1x1024x5632, .f32⟩
  | .hbm, ⟨16, _⟩ => ⟨S1024x5632, .f32⟩
  | .hbm, ⟨17, _⟩ => ⟨S1024x2816, .f32⟩
  | .hbm, ⟨18, _⟩ => ⟨S1024x2816, .bf16⟩
  | .hbm, ⟨19, _⟩ => ⟨S1x2816x1024, .f32⟩
  | .hbm, ⟨20, _⟩ => ⟨S2816x1024, .f32⟩
  | .hbm, ⟨21, _⟩ => ⟨S2816x1024, .bf16⟩
  | .hbm, ⟨22, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S512x1024, .f32⟩
  | .local _ .vmem, ⟨10, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S16384x1024 : Shape := ⟨2, ![16384, 1024]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024x1024 : Shape := ⟨2, ![1024, 1024]⟩
abbrev S1x1024 : Shape := ⟨2, ![1, 1024]⟩
abbrev S1024 : Shape := ⟨1, ![1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩
abbrev S16384x2816 : Shape := ⟨2, ![16384, 2816]⟩

abbrev nBuf : Space → Nat
  | .hbm => 46
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024x1024, .f32⟩
  | .hbm, ⟨3, _⟩ => ⟨S2x1024, .f32⟩
  | .hbm, ⟨4, _⟩ => ⟨S2x1024x5632, .f32⟩
  | .hbm, ⟨5, _⟩ => ⟨S2x2816x1024, .f32⟩
  | .hbm, ⟨6, _⟩ => ⟨S1024x1024, .f32⟩
  | .hbm, ⟨7, _⟩ => ⟨S16384x1024, .f32⟩
  | .hbm, ⟨8, _⟩ => ⟨S16384x1024, .f32⟩
  | .hbm, ⟨9, _⟩ => ⟨S1x1024, .f32⟩
  | .hbm, ⟨10, _⟩ => ⟨S1024, .f32⟩
  | .hbm, ⟨11, _⟩ => ⟨S1x1024x5632, .f32⟩
  | .hbm, ⟨12, _⟩ => ⟨S1024x5632, .f32⟩
  | .hbm, ⟨13, _⟩ => ⟨S1x2816x1024, .f32⟩
  | .hbm, ⟨14, _⟩ => ⟨S2816x1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S16384x5632, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S_, .f32⟩
  | .hbm, ⟨37, _⟩ => ⟨S16384x2816, .f32⟩
  | .hbm, ⟨38, _⟩ => ⟨S16384x2816, .f32⟩
  | .hbm, ⟨39, _⟩ => ⟨S_, .f32⟩
  | .hbm, ⟨40, _⟩ => ⟨S16384x2816, .f32⟩
  | .hbm, ⟨41, _⟩ => ⟨S16384x2816, .f32⟩
  | .hbm, ⟨42, _⟩ => ⟨S16384x2816, .f32⟩
  | .hbm, ⟨43, _⟩ => ⟨S16384x2816, .f32⟩
  | .hbm, ⟨44, _⟩ => ⟨S16384x1024, .f32⟩
  | .hbm, ⟨45, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== Kernel3.lean ====
abbrev S16384x1024 : Shape := ⟨2, ![16384, 1024]⟩
abbrev S1x1024 : Shape := ⟨2, ![1, 1024]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S1024x1024 : Shape := ⟨2, ![1024, 1024]⟩
abbrev S1x1024x5632 : Shape := ⟨3, ![1, 1024, 5632]⟩
abbrev S1024x5632 : Shape := ⟨2, ![1024, 5632]⟩
abbrev S1024x2816 : Shape := ⟨2, ![1024, 2816]⟩
abbrev S1x2816x1024 : Shape := ⟨3, ![1, 2816, 1024]⟩
abbrev S2816x1024 : Shape := ⟨2, ![2816, 1024]⟩
abbrev S512x1024 : Shape := ⟨2, ![512, 1024]⟩
abbrev S512x256 : Shape := ⟨2, ![512, 256]⟩
abbrev S1x256 : Shape := ⟨2, ![1, 256]⟩
abbrev S512 : Shape := ⟨1, ![512]⟩
abbrev S512x1 : Shape := ⟨2, ![512, 1]⟩
abbrev S1024x256 : Shape := ⟨2, ![1024, 256]⟩
abbrev S256x1024 : Shape := ⟨2, ![256, 1024]⟩

abbrev nBuf : Space → Nat
  | .hbm => 27
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1x1024, .f32⟩
  | .hbm, ⟨4, _⟩ => ⟨S1x1024x1024, .f32⟩
  | .hbm, ⟨5, _⟩ => ⟨S2x1024, .f32⟩
  | .hbm, ⟨6, _⟩ => ⟨S2x1024x5632, .f32⟩
  | .hbm, ⟨7, _⟩ => ⟨S2x2816x1024, .f32⟩
  | .hbm, ⟨8, _⟩ => ⟨S1024, .f32⟩
  | .hbm, ⟨9, _⟩ => ⟨S1x1024, .f32⟩
  | .hbm, ⟨10, _⟩ => ⟨S1024x1024, .f32⟩
  | .hbm, ⟨11, _⟩ => ⟨S1024x1024, .bf16⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1x1024x5632, .f32⟩
  | .hbm, ⟨16, _⟩ => ⟨S1024x5632, .f32⟩
  | .hbm, ⟨17, _⟩ => ⟨S1024x2816, .f32⟩
  | .hbm, ⟨18, _⟩ => ⟨S1024x2816, .bf16⟩
  | .hbm, ⟨19, _⟩ => ⟨S1x1024x5632, .f32⟩
  | .hbm, ⟨20, _⟩ => ⟨S1024x5632, .f32⟩
  | .hbm, ⟨21, _⟩ => ⟨S1024x2816, .f32⟩
  | .hbm, ⟨22, _⟩ => ⟨S1024x2816, .bf16⟩
  | .hbm, ⟨23, _⟩ => ⟨S1x2816x1024, .f32⟩
  | .hbm, ⟨24, _⟩ => ⟨S2816x1024, .f32⟩
  | .hbm, ⟨25, _⟩ => ⟨S2816x1024, .bf16⟩
  | .hbm, ⟨26, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1024x1024, .bf16⟩
  | .local _ .vmem, ⟨8, _⟩ => ⟨S1x1024, .f32⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S512x1024, .f32⟩
  | .local _ .vmem, ⟨13, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S16384x1024 : Shape := ⟨2, ![16384, 1024]⟩
abbrev S1x1024 : Shape := ⟨2, ![1, 1024]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S16384x4x256 : Shape := ⟨3, ![16384, 4, 256]⟩
abbrev S_ : Shape := ⟨0, ![]⟩
abbrev S16384x4 : Shape := ⟨2, ![16384, 4]⟩
abbrev S16384x4x1 : Shape := ⟨3, ![16384, 4, 1]⟩
abbrev S1024 : Shape := ⟨1, ![1024]⟩
abbrev S4x256 : Shape := ⟨2, ![4, 256]⟩
abbrev S1x4x256 : Shape := ⟨3, ![1, 4, 256]⟩
abbrev S1024x1024 : Shape := ⟨2, ![1024, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16384 : Shape := ⟨1, ![16384]⟩
abbrev S16384x1 : Shape := ⟨2, ![16384, 1]⟩
abbrev S16384x5632 : Shape := ⟨2, ![16384, 5632]⟩
abbrev S16384x2816 : Shape := ⟨2, ![16384, 2816]⟩

abbrev nBuf : Space → Nat
  | .hbm => 77
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1x1024, .f32⟩
  | .hbm, ⟨4, _⟩ => ⟨S1x1024x1024, .f32⟩
  | .hbm, ⟨5, _⟩ => ⟨S2x1024, .f32⟩
  | .hbm, ⟨6, _⟩ => ⟨S2x1024x5632, .f32⟩
  | .hbm, ⟨7, _⟩ => ⟨S2x2816x1024, .f32⟩
  | .hbm, ⟨8, _⟩ => ⟨S16384x4x256, .f32⟩
  | .hbm, ⟨9, _⟩ => ⟨S16384x4x256, .f32⟩
  | .hbm, ⟨10, _⟩ => ⟨S_, .f32⟩
  | .hbm, ⟨11, _⟩ => ⟨S16384x4, .f32⟩
  | .hbm, ⟨12, _⟩ => ⟨S16384x4x1, .f32⟩
  | .hbm, ⟨13, _⟩ => ⟨S_, .f32⟩
  | .hbm, ⟨14, _⟩ => ⟨S16384x4x1, .f32⟩
  | .hbm, ⟨15, _⟩ => ⟨S16384x4x1, .f32⟩
  | .hbm, ⟨16, _⟩ => ⟨S_, .f32⟩
  | .hbm, ⟨17, _⟩ => ⟨S16384x4x1, .f32⟩
  | .hbm, ⟨18, _⟩ => ⟨S16384x4x1, .f32⟩
  | .hbm, ⟨19, _⟩ => ⟨S16384x4x1, .f32⟩
  | .hbm, ⟨20, _⟩ => ⟨S16384x4x256, .f32⟩
  | .hbm, ⟨21, _⟩ => ⟨S16384x4x256, .f32⟩
  | .hbm, ⟨22, _⟩ => ⟨S1024, .f32⟩
  | .hbm, ⟨23, _⟩ => ⟨S4x256, .f32⟩
  | .hbm, ⟨24, _⟩ => ⟨S1x4x256, .f32⟩
  | .hbm, ⟨25, _⟩ => ⟨S16384x4x256, .f32⟩
  | .hbm, ⟨26, _⟩ => ⟨S16384x4x256, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S1024x1024, .f32⟩
  | .hbm, ⟨38, _⟩ => ⟨S16384x1024, .f32⟩
  | .hbm, ⟨39, _⟩ => ⟨S16384x1024, .f32⟩
  | .hbm, ⟨40, _⟩ => ⟨S1x1024, .f32⟩
  | .hbm, ⟨41, _⟩ => ⟨S1024, .f32⟩
  | .hbm, ⟨42, _⟩ => ⟨S1x1024x5632, .f32⟩
  | .hbm, ⟨43, _⟩ => ⟨S1024x5632, .f32⟩
  | .hbm, ⟨44, _⟩ => ⟨S1x2816x1024, .f32⟩
  | .hbm, ⟨45, _⟩ => ⟨S2816x1024, .f32⟩
  | .hbm, ⟨46, _⟩ => ⟨S16384x1024, .f32⟩
  | .hbm, ⟨47, _⟩ => ⟨S_, .f32⟩
  | .hbm, ⟨48, _⟩ => ⟨S16384, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S16384x1, .f32⟩
  | .hbm, ⟨57, _⟩ => ⟨S16384x1024, .f32⟩
  | .hbm, ⟨58, _⟩ => ⟨S16384x1024, .f32⟩
  | .hbm, ⟨59, _⟩ => ⟨S1x1024, .f32⟩
  | .hbm, ⟨60, _⟩ => ⟨S16384x1024, .f32⟩
  | .hbm, ⟨61, _⟩ => ⟨S16384x1024, .f32⟩
  | .hbm, ⟨62, _⟩ => ⟨S16384x5632, .f32⟩
  | .hbm, ⟨63, _⟩ => ⟨S16384x2816, .f32⟩
  | .hbm, ⟨64, _⟩ => ⟨S16384x2816, .f32⟩
  | .hbm, ⟨65, _⟩ => ⟨S16384x2816, .f32⟩
  | .hbm, ⟨66, _⟩ => ⟨S16384x2816, .f32⟩
  | .hbm, ⟨67, _⟩ => ⟨S_, .f32⟩
  | .hbm, ⟨68, _⟩ => ⟨S16384x2816, .f32⟩
  | .hbm, ⟨69, _⟩ => ⟨S16384x2816, .f32⟩
  | .hbm, ⟨70, _⟩ => ⟨S_, .f32⟩
  | .hbm, ⟨71, _⟩ => ⟨S16384x2816, .f32⟩
  | .hbm, ⟨72, _⟩ => ⟨S16384x2816, .f32⟩
  | .hbm, ⟨73, _⟩ => ⟨S16384x2816, .f32⟩
  | .hbm, ⟨74, _⟩ => ⟨S16384x2816, .f32⟩
  | .hbm, ⟨75, _⟩ => ⟨S16384x1024, .f32⟩
  | .hbm, ⟨76, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_call0_v0 : Ref sig .tc := ⟨.hbm, 65, rfl⟩
abbrev main_call0_v1 : Ref sig .tc := ⟨.hbm, 66, rfl⟩
abbrev main_call0_cst : Ref sig .tc := ⟨.hbm, 67, rfl⟩
abbrev main_call0_v2 : Ref sig .tc := ⟨.hbm, 68, rfl⟩
abbrev main_call0_v3 : Ref sig .tc := ⟨.hbm, 69, rfl⟩
abbrev main_call0_cst_0 : Ref sig .tc := ⟨.hbm, 70, rfl⟩
abbrev main_call0_v4 : Ref sig .tc := ⟨.hbm, 71, rfl⟩
abbrev main_call0_v5 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩

abbrev nD : Nat := 1
abbrev τ : Topo := Topo.v7x

variable {F : FTy → Type} [FloatOps F]
-- ==== Kernel4.lean ====
abbrev S16384x1024 : Shape := ⟨2, ![16384, 1024]⟩
abbrev S2x1024 : Shape := ⟨2, ![2, 1024]⟩
abbrev S1x1024x3080 : Shape := ⟨3, ![1, 1024, 3080]⟩
abbrev S1024x3080 : Shape := ⟨2, ![1024, 3080]⟩
abbrev S1024x8 : Shape := ⟨2, ![1024, 8]⟩
abbrev S_ : Shape := ⟨0, ![]⟩
abbrev S1024x128 : Shape := ⟨2, ![1024, 128]⟩
abbrev S1024x512 : Shape := ⟨2, ![1024, 512]⟩
abbrev S1024x1024 : Shape := ⟨2, ![1024, 1024]⟩
abbrev S1x1024 : Shape := ⟨2, ![1, 1024]⟩
abbrev S1024 : Shape := ⟨1, ![1024]⟩
abbrev S16384x512 : Shape := ⟨2, ![16384, 512]⟩
abbrev S16384x128 : Shape := ⟨2, ![16384, 128]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 25
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S1x1024x3080, .f32⟩
  | .hbm, ⟨3, _⟩ => ⟨S1024x3080, .f32⟩
  | .hbm, ⟨4, _⟩ => ⟨S1024x8, .f32⟩
  | .hbm, ⟨5, _⟩ => ⟨S_, .i32⟩
  | .hbm, ⟨6, _⟩ => ⟨S_, .f32⟩
  | .hbm, ⟨7, _⟩ => ⟨S1024x128, .f32⟩
  | .hbm, ⟨8, _⟩ => ⟨S1024x512, .f32⟩
  | .hbm, ⟨9, _⟩ => ⟨S1024x512, .bf16⟩
  | .hbm, ⟨10, _⟩ => ⟨S1024x512, .f32⟩
  | .hbm, ⟨11, _⟩ => ⟨S1024x512, .bf16⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S1024x128, .bf16⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S16384x512, .f32⟩
  | .hbm, ⟨21, _⟩ => ⟨S16384x512, .f32⟩
  | .hbm, ⟨22, _⟩ => ⟨S16384x1024, .f32⟩
  | .hbm, ⟨23, _⟩ => ⟨S16384x1024, .f32⟩
  | .hbm, ⟨24, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x1024, .bf16⟩
  | .local _ .vmem, ⟨6, _⟩ => ⟨S1024x1024, .bf16⟩
  | .local _ .vmem, ⟨7, _⟩ => ⟨S1024x128, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x128, .f32⟩
  | .local _ .vmem, ⟨17, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15_0 : Ref sig .tc := ⟨.hbm, 20, rfl⟩
abbrev main_v15_1 : Ref sig .tc := ⟨.hbm, 21, rfl⟩
abbrev main_v15_2 : Ref sig .tc := ⟨.hbm, 22, rfl⟩
abbrev main_v15_3 : Ref sig .tc := ⟨.hbm, 23, rfl⟩
abbrev main_v15_4 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S16384x1024 : Shape := ⟨2, ![16384, 1024]⟩
abbrev S2x1024 : Shape := ⟨2, ![2, 1024]⟩
abbrev S1x1024x3080 : Shape := ⟨3, ![1, 1024, 3080]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x3080 : Shape := ⟨2, ![1024, 3080]⟩
abbrev S16384x3080 : Shape := ⟨2, ![16384, 3080]⟩
abbrev S16384x512 : Shape := ⟨2, ![16384, 512]⟩
abbrev S16384x8 : Shape := ⟨2, ![16384, 8]⟩
abbrev S16384x128 : Shape := ⟨2, ![16384, 128]⟩

abbrev nBuf : Space → Nat
  | .hbm => 31
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S1x1024x3080, .f32⟩
  | .hbm, ⟨3, _⟩ => ⟨S1x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S1024x3080, .f32⟩
  | .hbm, ⟨22, _⟩ => ⟨S16384x3080, .f32⟩
  | .hbm, ⟨23, _⟩ => ⟨S16384x512, .f32⟩
  | .hbm, ⟨24, _⟩ => ⟨S16384x512, .f32⟩
  | .hbm, ⟨25, _⟩ => ⟨S16384x1024, .f32⟩
  | .hbm, ⟨26, _⟩ => ⟨S16384x1024, .f32⟩
  | .hbm, ⟨27, _⟩ => ⟨S16384x8, .f32⟩
  | .hbm, ⟨28, _⟩ => ⟨S_, .i32⟩
  | .hbm, ⟨29, _⟩ => ⟨S_, .f32⟩
  | .hbm, ⟨30, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c : Ref sig .tc := ⟨.hbm, 28, rfl⟩
abbrev main_call0_v0 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel5.lean ====
abbrev S16384x1024 : Shape := ⟨2, ![16384, 1024]⟩
abbrev S2x1024 : Shape := ⟨2, ![2, 1024]⟩
abbrev S1x1024x3072 : Shape := ⟨3, ![1, 1024, 3072]⟩
abbrev S1x128 : Shape := ⟨2, ![1, 128]⟩
abbrev S4096 : Shape := ⟨1, ![4096]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S1x1024 : Shape := ⟨2, ![1, 1024]⟩
abbrev S1024 : Shape := ⟨1, ![1024]⟩
abbrev S1024x3072 : Shape := ⟨2, ![1024, 3072]⟩
abbrev S1024x1024 : Shape := ⟨2, ![1024, 1024]⟩
abbrev S128 : Shape := ⟨1, ![128]⟩
abbrev S64x1152x256 : Shape := ⟨3, ![64, 1152, 256]⟩
abbrev S64x8x1024 : Shape := ⟨3, ![64, 8, 1024]⟩
abbrev S512x1024 : Shape := ⟨2, ![512, 1024]⟩
abbrev S512x128 : Shape := ⟨2, ![512, 128]⟩
abbrev S2x1152x256 : Shape := ⟨3, ![2, 1152, 256]⟩
abbrev S2x8x1024 : Shape := ⟨3, ![2, 8, 1024]⟩
abbrev S512 : Shape := ⟨1, ![512]⟩
abbrev S512x1 : Shape := ⟨2, ![512, 1]⟩
abbrev S256x1024 : Shape := ⟨2, ![256, 1024]⟩
abbrev S1024x256 : Shape := ⟨2, ![1024, 256]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S8x128 : Shape := ⟨2, ![8, 128]⟩
abbrev S1x8x128 : Shape := ⟨3, ![1, 8, 128]⟩
abbrev S128x256 : Shape := ⟨2, ![128, 256]⟩
abbrev S1x128x256 : Shape := ⟨3, ![1, 128, 256]⟩
abbrev S16x256 : Shape := ⟨2, ![16, 256]⟩
abbrev S1x16x256 : Shape := ⟨3, ![1, 16, 256]⟩

abbrev nBuf : Space → Nat
  | .hbm => 47
  | .vmem => 24
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S1x1024x3072, .f32⟩
  | .hbm, ⟨3, _⟩ => ⟨S1x128, .f32⟩
  | .hbm, ⟨4, _⟩ => ⟨S1x128, .f32⟩
  | .hbm, ⟨5, _⟩ => ⟨S4096, .i32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S4096, .f32⟩
  | .hbm, ⟨15, _⟩ => ⟨S4096x1, .f32⟩
  | .hbm, ⟨16, _⟩ => ⟨S1x64, .f32⟩
  | .hbm, ⟨17, _⟩ => ⟨S4096x64, .f32⟩
  | .hbm, ⟨18, _⟩ => ⟨S4096x64, .f32⟩
  | .hbm, ⟨19, _⟩ => ⟨S4096x64, .f32⟩
  | .hbm, ⟨20, _⟩ => ⟨S4096x64, .f32⟩
  | .hbm, ⟨21, _⟩ => ⟨S4096x64, .f32⟩
  | .hbm, ⟨22, _⟩ => ⟨S4096x128, .f32⟩
  | .hbm, ⟨23, _⟩ => ⟨S4096x64, .f32⟩
  | .hbm, ⟨24, _⟩ => ⟨S4096x128, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S1024x3072, .f32⟩
  | .hbm, ⟨29, _⟩ => ⟨S1024x1024, .f32⟩
  | .hbm, ⟨30, _⟩ => ⟨S1024x1024, .bf16⟩
  | .hbm, ⟨31, _⟩ => ⟨S1024x3072, .f32⟩
  | .hbm, ⟨32, _⟩ => ⟨S1024x1024, .f32⟩
  | .hbm, ⟨33, _⟩ => ⟨S1024x1024, .bf16⟩
  | .hbm, ⟨34, _⟩ => ⟨S1024x3072, .f32⟩
  | .hbm, ⟨35, _⟩ => ⟨S1024x1024, .f32⟩
  | .hbm, ⟨36, _⟩ => ⟨S1024x1024, .bf16⟩
  | .hbm, ⟨37, _⟩ => ⟨S128, .f32⟩
  | .hbm, ⟨38, _⟩ => ⟨S1x128, .f32⟩
  | .hbm, ⟨39, _⟩ => ⟨S128, .f32⟩
  | .hbm, ⟨40, _⟩ => ⟨S1x128, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .bf16⟩
  | .hbm, ⟨45, _⟩ => ⟨S64x1152x256, .bf16⟩
  | .hbm, ⟨46, _⟩ => ⟨S64x8x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x128, .f32⟩
  | .local _ .vmem, ⟨7, _⟩ => ⟨S1x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S2x1152x256, .bf16⟩
  | .local _ .vmem, ⟨21, _⟩ => ⟨S2x1152x256, .bf16⟩
  | .local _ .vmem, ⟨22, _⟩ => ⟨S2x8x1024, .f32⟩
  | .local _ .vmem, ⟨23, _⟩ => ⟨S2x8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34_0 : Ref sig .tc := ⟨.hbm, 41, rfl⟩
abbrev main_v34_1 : Ref sig .tc := ⟨.hbm, 42, rfl⟩
abbrev main_v34_2 : Ref sig .tc := ⟨.hbm, 43, rfl⟩
abbrev main_v34_3 : Ref sig .tc := ⟨.hbm, 44, rfl⟩
abbrev main_v34_4 : Ref sig .tc := ⟨.hbm, 45, rfl⟩
abbrev main_v34_5 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x1152x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x8x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference5Ideal.lean ====
abbrev S16384x1024 : Shape := ⟨2, ![16384, 1024]⟩
abbrev S2x1024 : Shape := ⟨2, ![2, 1024]⟩
abbrev S1x1024x3072 : Shape := ⟨3, ![1, 1024, 3072]⟩
abbrev S1x128 : Shape := ⟨2, ![1, 128]⟩
abbrev S4096 : Shape := ⟨1, ![4096]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x3072 : Shape := ⟨2, ![1024, 3072]⟩
abbrev S16384x3072 : Shape := ⟨2, ![16384, 3072]⟩
abbrev S4x4096x3x8x128 : Shape := ⟨5, ![4, 4096, 3, 8, 128]⟩
abbrev S4x4096x1x8x128 : Shape := ⟨5, ![4, 4096, 1, 8, 128]⟩
abbrev S4x4096x8x128 : Shape := ⟨4, ![4, 4096, 8, 128]⟩
abbrev S128 : Shape := ⟨1, ![128]⟩
abbrev S4x4096x8 : Shape := ⟨3, ![4, 4096, 8]⟩
abbrev S4x4096x8x1 : Shape := ⟨4, ![4, 4096, 8, 1]⟩
abbrev S1x1x1x128 : Shape := ⟨4, ![1, 1, 1, 128]⟩
abbrev S64 : Shape := ⟨1, ![64]⟩
abbrev S4096x1 : Shape := ⟨2, ![4096, 1]⟩
abbrev S1x64 : Shape := ⟨2, ![1, 64]⟩
abbrev S4096x64 : Shape := ⟨2, ![4096, 64]⟩
abbrev S1x4096x1x64 : Shape := ⟨4, ![1, 4096, 1, 64]⟩
abbrev S4x4096x8x64 : Shape := ⟨4, ![4, 4096, 8, 64]⟩
abbrev S64x256x1024 : Shape := ⟨3, ![64, 256, 1024]⟩
abbrev S64x1024 : Shape := ⟨2, ![64, 1024]⟩
abbrev S64x256x8x128 : Shape := ⟨4, ![64, 256, 8, 128]⟩
abbrev S64x8x128x256 : Shape := ⟨4, ![64, 8, 128, 256]⟩
abbrev S64x8x16x256 : Shape := ⟨4, ![64, 8, 16, 256]⟩
abbrev S64x8x144x256 : Shape := ⟨4, ![64, 8, 144, 256]⟩
abbrev S64x1152x256 : Shape := ⟨3, ![64, 1152, 256]⟩
abbrev S64x1x1024 : Shape := ⟨3, ![64, 1, 1024]⟩
abbrev S64x8x1024 : Shape := ⟨3, ![64, 8, 1024]⟩

abbrev nBuf : Space → Nat
  | .hbm => 149
  | .vmem => 0
  | .smem => 0
  | _ => 0

abbrev hbmTy0_0 (i : Nat) : BufTy := match i % 128 with
  | 0 => ⟨S16384x1024, .f32⟩
  | 1 => ⟨S2x1024, .f32⟩
  | 2 => ⟨S1x1024x3072, .f32⟩
  | 3 => ⟨S1x128, .f32⟩
  | 4 => ⟨S1x128, .f32⟩
  | 5 => ⟨S4096, .i32⟩
  | 6 => ⟨S1x1024, .f32⟩
  | 7 => ⟨S1024, .f32⟩
  | 8 => ⟨S16384x1024, .f32⟩
  | 9 => ⟨S_, .f32⟩
  | 10 => ⟨S16384, .f32⟩
  | 11 => ⟨S16384x1, .f32⟩
  | 12 => ⟨S_, .f32⟩
  | 13 => ⟨S16384x1, .f32⟩
  | 14 => ⟨S16384x1, .f32⟩
  | 15 => ⟨S_, .f32⟩
  | 16 => ⟨S16384x1, .f32⟩
  | 17 => ⟨S16384x1, .f32⟩
  | 18 => ⟨S16384x1, .f32⟩
  | 19 => ⟨S16384x1024, .f32⟩
  | 20 => ⟨S16384x1024, .f32⟩
  | 21 => ⟨S1x1024, .f32⟩
  | 22 => ⟨S16384x1024, .f32⟩
  | 23 => ⟨S16384x1024, .f32⟩
  | 24 => ⟨S1024x3072, .f32⟩
  | 25 => ⟨S16384x3072, .f32⟩
  | 26 => ⟨S4x4096x3x8x128, .f32⟩
  | 27 => ⟨S4x4096x1x8x128, .f32⟩
  | 28 => ⟨S4x4096x8x128, .f32⟩
  | 29 => ⟨S4x4096x1x8x128, .f32⟩
  | 30 => ⟨S4x4096x8x128, .f32⟩
  | 31 => ⟨S4x4096x1x8x128, .f32⟩
  | 32 => ⟨S4x4096x8x128, .f32⟩
  | 33 => ⟨S128, .f32⟩
  | 34 => ⟨S4x4096x8x128, .f32⟩
  | 35 => ⟨S_, .f32⟩
  | 36 => ⟨S4x4096x8, .f32⟩
  | 37 => ⟨S4x4096x8x1, .f32⟩
  | 38 => ⟨S_, .f32⟩
  | 39 => ⟨S4x4096x8x1, .f32⟩
  | 40 => ⟨S4x4096x8x1, .f32⟩
  | 41 => ⟨S_, .f32⟩
  | 42 => ⟨S4x4096x8x1, .f32⟩
  | 43 => ⟨S4x4096x8x1, .f32⟩
  | 44 => ⟨S4x4096x8x1, .f32⟩
  | 45 => ⟨S4x4096x8x128, .f32⟩
  | 46 => ⟨S4x4096x8x128, .f32⟩
  | 47 => ⟨S1x1x1x128, .f32⟩
  | 48 => ⟨S4x4096x8x128, .f32⟩
  | 49 => ⟨S4x4096x8x128, .f32⟩
  | 50 => ⟨S64, .f32⟩
  | 51 => ⟨S64, .f32⟩
  | 52 => ⟨S_, .f32⟩
  | 53 => ⟨S64, .f32⟩
  | 54 => ⟨S64, .f32⟩
  | 55 => ⟨S_, .f32⟩
  | 56 => ⟨S64, .f32⟩
  | 57 => ⟨S64, .f32⟩
  | 58 => ⟨S4096, .f32⟩
  | 59 => ⟨S4096x1, .f32⟩
  | 60 => ⟨S1x64, .f32⟩
  | 61 => ⟨S4096x64, .f32⟩
  | 62 => ⟨S4096x64, .f32⟩
  | 63 => ⟨S4096x64, .f32⟩
  | 64 => ⟨S4096x64, .f32⟩
  | 65 => ⟨S1x4096x1x64, .f32⟩
  | 66 => ⟨S4096x64, .f32⟩
  | 67 => ⟨S1x4096x1x64, .f32⟩
  | 68 => ⟨S4x4096x8x64, .f32⟩
  | 69 => ⟨S4x4096x8x64, .f32⟩
  | 70 => ⟨S4x4096x8x64, .f32⟩
  | 71 => ⟨S4x4096x8x64, .f32⟩
  | 72 => ⟨S4x4096x8x64, .f32⟩
  | 73 => ⟨S4x4096x8x64, .f32⟩
  | 74 => ⟨S4x4096x8x64, .f32⟩
  | 75 => ⟨S4x4096x8x64, .f32⟩
  | 76 => ⟨S4x4096x8x64, .f32⟩
  | 77 => ⟨S4x4096x8x64, .f32⟩
  | 78 => ⟨S4x4096x8x64, .f32⟩
  | 79 => ⟨S4x4096x8x64, .f32⟩
  | 80 => ⟨S4x4096x8x128, .f32⟩
  | 81 => ⟨S128, .f32⟩
  | 82 => ⟨S4x4096x8x128, .f32⟩
  | 83 => ⟨S_, .f32⟩
  | 84 => ⟨S4x4096x8, .f32⟩
  | 85 => ⟨S4x4096x8x1, .f32⟩
  | 86 => ⟨S_, .f32⟩
  | 87 => ⟨S4x4096x8x1, .f32⟩
  | 88 => ⟨S4x4096x8x1, .f32⟩
  | 89 => ⟨S_, .f32⟩
  | 90 => ⟨S4x4096x8x1, .f32⟩
  | 91 => ⟨S4x4096x8x1, .f32⟩
  | 92 => ⟨S4x4096x8x1, .f32⟩
  | 93 => ⟨S4x4096x8x128, .f32⟩
  | 94 => ⟨S4x4096x8x128, .f32⟩
  | 95 => ⟨S1x1x1x128, .f32⟩
  | 96 => ⟨S4x4096x8x128, .f32⟩
  | 97 => ⟨S4x4096x8x128, .f32⟩
  | 98 => ⟨S64, .f32⟩
  | 99 => ⟨S64, .f32⟩
  | 100 => ⟨S_, .f32⟩
  | 101 => ⟨S64, .f32⟩
  | 102 => ⟨S64, .f32⟩
  | 103 => ⟨S_, .f32⟩
  | 104 => ⟨S64, .f32⟩
  | 105 => ⟨S64, .f32⟩
  | 106 => ⟨S4096, .f32⟩
  | 107 => ⟨S4096x1, .f32⟩
  | 108 => ⟨S1x64, .f32⟩
  | 109 => ⟨S4096x64, .f32⟩
  | 110 => ⟨S4096x64, .f32⟩
  | 111 => ⟨S4096x64, .f32⟩
  | 112 => ⟨S4096x64, .f32⟩
  | 113 => ⟨S1x4096x1x64, .f32⟩
  | 114 => ⟨S4096x64, .f32⟩
  | 115 => ⟨S1x4096x1x64, .f32⟩
  | 116 => ⟨S4x4096x8x64, .f32⟩
  | 117 => ⟨S4x4096x8x64, .f32⟩
  | 118 => ⟨S4x4096x8x64, .f32⟩
  | 119 => ⟨S4x4096x8x64, .f32⟩
  | 120 => ⟨S4x4096x8x64, .f32⟩
  | 121 => ⟨S4x4096x8x64, .f32⟩
  | 122 => ⟨S4x4096x8x64, .f32⟩
  | 123 => ⟨S4x4096x8x64, .f32⟩
  | 124 => ⟨S4x4096x8x64, .f32⟩
  | 125 => ⟨S4x4096x8x64, .f32⟩
  | 126 => ⟨S4x4096x8x64, .f32⟩
  | 127 => ⟨S4x4096x8x64, .f32⟩
  | _ => ⟨S16384x1024, .f32⟩

abbrev hbmTy0_1 (i : Nat) : BufTy := match i % 128 with
  | 0 => ⟨S4x4096x8x128, .f32⟩
  | 1 => ⟨S64x256x1024, .f32⟩
  | 2 => ⟨S_, .f32⟩
  | 3 => ⟨S64x1024, .f32⟩
  | 4 => ⟨S_, .f32⟩
  | 5 => ⟨S64x1024, .f32⟩
  | 6 => ⟨S64x1024, .f32⟩
  | 7 => ⟨S64x256x8x128, .f32⟩
  | 8 => ⟨S64x8x128x256, .f32⟩
  | 9 => ⟨S_, .f32⟩
  | 10 => ⟨S64x8x16x256, .f32⟩
  | 11 => ⟨S64x8x144x256, .f32⟩
  | 12 => ⟨S64x1152x256, .f32⟩
  | 13 => ⟨S16384x1024, .f32⟩
  | 14 => ⟨S16384x1024, .f32⟩
  | 15 => ⟨S16384x1024, .f32⟩
  | 16 => ⟨S16384x1024, .f32⟩
  | 17 => ⟨S16384x1024, .bf16⟩
  | 18 => ⟨S64x1152x256, .bf16⟩
  | 19 => ⟨S64x1x1024, .f32⟩
  | 20 => ⟨S64x8x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_cst_7 : Ref sig .tc := ⟨.hbm, 83, rfl⟩
abbrev main_v70 : Ref sig .tc := ⟨.hbm, 84, rfl⟩
abbrev main_v71 : Ref sig .tc := ⟨.hbm, 85, rfl⟩
abbrev main_cst_8 : Ref sig .tc := ⟨.hbm, 86, rfl⟩
abbrev main_v72 : Ref sig .tc := ⟨.hbm, 87, rfl⟩
abbrev main_v73 : Ref sig .tc := ⟨.hbm, 88, rfl⟩
abbrev main_cst_9 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_cst_10 : Ref sig .tc := ⟨.hbm, 100, rfl⟩
abbrev main_v84 : Ref sig .tc := ⟨.hbm, 101, rfl⟩
abbrev main_v85 : Ref sig .tc := ⟨.hbm, 102, rfl⟩
abbrev main_cst_11 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_cst_12 : Ref sig .tc := ⟨.hbm, 130, rfl⟩
abbrev main_v112 : Ref sig .tc := ⟨.hbm, 131, rfl⟩
abbrev main_cst_13 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_cst_14 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩

abbrev nD : Nat := 1
abbrev τ : Topo := Topo.v7x

variable {F : FTy → Type} [FloatOps F]
-- ==== Kernel6.lean ====
abbrev S512x1024 : Shape := ⟨2, ![512, 1024]⟩
abbrev S2x1024 : Shape := ⟨2, ![2, 1024]⟩
abbrev S1x1024x3072 : Shape := ⟨3, ![1, 1024, 3072]⟩
abbrev S1x128 : Shape := ⟨2, ![1, 128]⟩
abbrev S4 : Shape := ⟨1, ![4]⟩
abbrev S_ : Shape := ⟨0, ![]⟩
abbrev S64 : Shape := ⟨1, ![64]⟩
abbrev S4x1 : Shape := ⟨2, ![4, 1]⟩
abbrev S1x64 : Shape := ⟨2, ![1, 64]⟩
abbrev S4x64 : Shape := ⟨2, ![4, 64]⟩
abbrev S4x128 : Shape := ⟨2, ![4, 128]⟩
abbrev S1x4x1x128 : Shape := ⟨4, ![1, 4, 1, 128]⟩
abbrev S64x4x1x128 : Shape := ⟨4, ![64, 4, 1, 128]⟩
abbrev S256x128 : Shape := ⟨2, ![256, 128]⟩
abbrev S1x1024 : Shape := ⟨2, ![1, 1024]⟩
abbrev S1024 : Shape := ⟨1, ![1024]⟩
abbrev S1024x3072 : Shape := ⟨2, ![1024, 3072]⟩
abbrev S1024x1024 : Shape := ⟨2, ![1024, 1024]⟩
abbrev S128 : Shape := ⟨1, ![128]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩

abbrev nBuf : Space → Nat
  | .hbm => 53
  | .vmem => 16
  | .smem => 0
  | _ => 0

abbrev bufTy : (tb : Table) → Fin (tcTables nBuf tb) → BufTy
  | .hbm, ⟨0, _⟩ => ⟨S512x1024, .f32⟩
  | .hbm, ⟨1, _⟩ => ⟨S2x1024, .f32⟩
  | .hbm, ⟨2, _⟩ => ⟨S1x1024x3072, .f32⟩
  | .hbm, ⟨3, _⟩ => ⟨S1x128, .f32⟩
  | .hbm, ⟨4, _⟩ => ⟨S1x128, .f32⟩
  | .hbm, ⟨5, _⟩ => ⟨S4, .i32⟩
  | .hbm, ⟨6, _⟩ => ⟨S_, .i32⟩
  | .hbm, ⟨7, _⟩ => ⟨S4, .i32⟩
  | .hbm, ⟨8, _⟩ => ⟨S4, .i32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S4, .f32⟩
  | .hbm, ⟨18, _⟩ => ⟨S4x1, .f32⟩
  | .hbm, ⟨19, _⟩ => ⟨S1x64, .f32⟩
  | .hbm, ⟨20, _⟩ => ⟨S4x64, .f32⟩
  | .hbm, ⟨21, _⟩ => ⟨S4x64, .f32⟩
  | .hbm, ⟨22, _⟩ => ⟨S4x64, .f32⟩
  | .hbm, ⟨23, _⟩ => ⟨S4x64, .f32⟩
  | .hbm, ⟨24, _⟩ => ⟨S4x64, .f32⟩
  | .hbm, ⟨25, _⟩ => ⟨S4x128, .f32⟩
  | .hbm, ⟨26, _⟩ => ⟨S4x64, .f32⟩
  | .hbm, ⟨27, _⟩ => ⟨S4x128, .f32⟩
  | .hbm, ⟨28, _⟩ => ⟨S1x4x1x128, .f32⟩
  | .hbm, ⟨29, _⟩ => ⟨S64x4x1x128, .f32⟩
  | .hbm, ⟨30, _⟩ => ⟨S256x128, .f32⟩
  | .hbm, ⟨31, _⟩ => ⟨S1x4x1x128, .f32⟩
  | .hbm, ⟨32, _⟩ => ⟨S64x4x1x128, .f32⟩
  | .hbm, ⟨33, _⟩ => ⟨S256x128, .f32⟩
  | .hbm, ⟨34, _⟩ => ⟨S1x1024, .f32⟩
  | .hbm, ⟨35, _⟩ => ⟨S1024, .f32⟩
  | .hbm, ⟨36, _⟩ => ⟨S1x1024, .f32⟩
  | .hbm, ⟨37, _⟩ => ⟨S1024x3072, .f32⟩
  | .hbm, ⟨38, _⟩ => ⟨S1024x1024, .f32⟩
  | .hbm, ⟨39, _⟩ => ⟨S1024x1024, .bf16⟩
  | .hbm, ⟨40, _⟩ => ⟨S1024x3072, .f32⟩
  | .hbm, ⟨41, _⟩ => ⟨S1024x1024, .f32⟩
  | .hbm, ⟨42, _⟩ => ⟨S1024x1024, .bf16⟩
  | .hbm, ⟨43, _⟩ => ⟨S1024x3072, .f32⟩
  | .hbm, ⟨44, _⟩ => ⟨S1024x1024, .f32⟩
  | .hbm, ⟨45, _⟩ => ⟨S1024x1024, .bf16⟩
  | .hbm, ⟨46, _⟩ => ⟨S128, .f32⟩
  | .hbm, ⟨47, _⟩ => ⟨S1x128, .f32⟩
  | .hbm, ⟨48, _⟩ => ⟨S128, .f32⟩
  | .hbm, ⟨49, _⟩ => ⟨S1x128, .f32⟩
  | .hbm, ⟨50, _⟩ => ⟨S512x1024, .f32⟩
  | .hbm, ⟨51, _⟩ => ⟨S512x1024, .f32⟩
  | .hbm, ⟨52, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x128, .f32⟩
  | .local _ .vmem, ⟨7, _⟩ => ⟨S1x128, .f32⟩
  | .local _ .vmem, ⟨8, _⟩ => ⟨S256x128, .f32⟩
  | .local _ .vmem, ⟨9, _⟩ => ⟨S256x128, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42_0 : Ref sig .tc := ⟨.hbm, 50, rfl⟩
abbrev main_v42_1 : Ref sig .tc := ⟨.hbm, 51, rfl⟩
abbrev main_v42_2 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference6Ideal.lean ====
abbrev S512x1024 : Shape := ⟨2, ![512, 1024]⟩
abbrev S2x1024 : Shape := ⟨2, ![2, 1024]⟩
abbrev S1x1024x3072 : Shape := ⟨3, ![1, 1024, 3072]⟩
abbrev S1x128 : Shape := ⟨2, ![1, 128]⟩
abbrev S4 : Shape := ⟨1, ![4]⟩
abbrev S_ : Shape := ⟨0, ![]⟩
abbrev S1x1024 : Shape := ⟨2, ![1, 1024]⟩
abbrev S1024 : Shape := ⟨1, ![1024]⟩
abbrev S512 : Shape := ⟨1, ![512]⟩
abbrev S512x1 : Shape := ⟨2, ![512, 1]⟩
abbrev S1024x3072 : Shape := ⟨2, ![1024, 3072]⟩
abbrev S512x3072 : Shape := ⟨2, ![512, 3072]⟩
abbrev S128x4x3x8x128 : Shape := ⟨5, ![128, 4, 3, 8, 128]⟩
abbrev S128x4x1x8x128 : Shape := ⟨5, ![128, 4, 1, 8, 128]⟩
abbrev S128x4x8x128 : Shape := ⟨4, ![128, 4, 8, 128]⟩
abbrev S128 : Shape := ⟨1, ![128]⟩
abbrev S128x4x8 : Shape := ⟨3, ![128, 4, 8]⟩
abbrev S128x4x8x1 : Shape := ⟨4, ![128, 4, 8, 1]⟩
abbrev S1x1x1x128 : Shape := ⟨4, ![1, 1, 1, 128]⟩
abbrev S64 : Shape := ⟨1, ![64]⟩
abbrev S4x1 : Shape := ⟨2, ![4, 1]⟩
abbrev S1x64 : Shape := ⟨2, ![1, 64]⟩
abbrev S4x64 : Shape := ⟨2, ![4, 64]⟩
abbrev S1x4x1x64 : Shape := ⟨4, ![1, 4, 1, 64]⟩
abbrev S128x4x8x64 : Shape := ⟨4, ![128, 4, 8, 64]⟩

abbrev nBuf : Space → Nat
  | .hbm => 135
  | .vmem => 0
  | .smem => 0
  | _ => 0

abbrev hbmTy0_0 (i : Nat) : BufTy := match i % 128 with
  | 0 => ⟨S512x1024, .f32⟩
  | 1 => ⟨S2x1024, .f32⟩
  | 2 => ⟨S1x1024x3072, .f32⟩
  | 3 => ⟨S1x128, .f32⟩
  | 4 => ⟨S1x128, .f32⟩
  | 5 => ⟨S4, .i32⟩
  | 6 => ⟨S_, .i32⟩
  | 7 => ⟨S4, .i32⟩
  | 8 => ⟨S4, .i32⟩
  | 9 => ⟨S1x1024, .f32⟩
  | 10 => ⟨S1024, .f32⟩
  | 11 => ⟨S512x1024, .f32⟩
  | 12 => ⟨S_, .f32⟩
  | 13 => ⟨S512, .f32⟩
  | 14 => ⟨S512x1, .f32⟩
  | 15 => ⟨S_, .f32⟩
  | 16 => ⟨S512x1, .f32⟩
  | 17 => ⟨S512x1, .f32⟩
  | 18 => ⟨S_, .f32⟩
  | 19 => ⟨S512x1, .f32⟩
  | 20 => ⟨S512x1, .f32⟩
  | 21 => ⟨S512x1, .f32⟩
  | 22 => ⟨S512x1024, .f32⟩
  | 23 => ⟨S512x1024, .f32⟩
  | 24 => ⟨S1x1024, .f32⟩
  | 25 => ⟨S512x1024, .f32⟩
  | 26 => ⟨S512x1024, .f32⟩
  | 27 => ⟨S1024x3072, .f32⟩
  | 28 => ⟨S512x3072, .f32⟩
  | 29 => ⟨S128x4x3x8x128, .f32⟩
  | 30 => ⟨S128x4x1x8x128, .f32⟩
  | 31 => ⟨S128x4x8x128, .f32⟩
  | 32 => ⟨S128x4x1x8x128, .f32⟩
  | 33 => ⟨S128x4x8x128, .f32⟩
  | 34 => ⟨S128x4x1x8x128, .f32⟩
  | 35 => ⟨S128x4x8x128, .f32⟩
  | 36 => ⟨S128, .f32⟩
  | 37 => ⟨S128x4x8x128, .f32⟩
  | 38 => ⟨S_, .f32⟩
  | 39 => ⟨S128x4x8, .f32⟩
  | 40 => ⟨S128x4x8x1, .f32⟩
  | 41 => ⟨S_, .f32⟩
  | 42 => ⟨S128x4x8x1, .f32⟩
  | 43 => ⟨S128x4x8x1, .f32⟩
  | 44 => ⟨S_, .f32⟩
  | 45 => ⟨S128x4x8x1, .f32⟩
  | 46 => ⟨S128x4x8x1, .f32⟩
  | 47 => ⟨S128x4x8x1, .f32⟩
  | 48 => ⟨S128x4x8x128, .f32⟩
  | 49 => ⟨S128x4x8x128, .f32⟩
  | 50 => ⟨S1x1x1x128, .f32⟩
  | 51 => ⟨S128x4x8x128, .f32⟩
  | 52 => ⟨S128x4x8x128, .f32⟩
  | 53 => ⟨S64, .f32⟩
  | 54 => ⟨S64, .f32⟩
  | 55 => ⟨S_, .f32⟩
  | 56 => ⟨S64, .f32⟩
  | 57 => ⟨S64, .f32⟩
  | 58 => ⟨S_, .f32⟩
  | 59 => ⟨S64, .f32⟩
  | 60 => ⟨S64, .f32⟩
  | 61 => ⟨S4, .f32⟩
  | 62 => ⟨S4x1, .f32⟩
  | 63 => ⟨S1x64, .f32⟩
  | 64 => ⟨S4x64, .f32⟩
  | 65 => ⟨S4x64, .f32⟩
  | 66 => ⟨S4x64, .f32⟩
  | 67 => ⟨S4x64, .f32⟩
  | 68 => ⟨S1x4x1x64, .f32⟩
  | 69 => ⟨S4x64, .f32⟩
  | 70 => ⟨S1x4x1x64, .f32⟩
  | 71 => ⟨S128x4x8x64, .f32⟩
  | 72 => ⟨S128x4x8x64, .f32⟩
  | 73 => ⟨S128x4x8x64, .f32⟩
  | 74 => ⟨S128x4x8x64, .f32⟩
  | 75 => ⟨S128x4x8x64, .f32⟩
  | 76 => ⟨S128x4x8x64, .f32⟩
  | 77 => ⟨S128x4x8x64, .f32⟩
  | 78 => ⟨S128x4x8x64, .f32⟩
  | 79 => ⟨S128x4x8x64, .f32⟩
  | 80 => ⟨S128x4x8x64, .f32⟩
  | 81 => ⟨S128x4x8x64, .f32⟩
  | 82 => ⟨S128x4x8x64, .f32⟩
  | 83 => ⟨S128x4x8x128, .f32⟩
  | 84 => ⟨S128, .f32⟩
  | 85 => ⟨S128x4x8x128, .f32⟩
  | 86 => ⟨S_, .f32⟩
  | 87 => ⟨S128x4x8, .f32⟩
  | 88 => ⟨S128x4x8x1, .f32⟩
  | 89 => ⟨S_, .f32⟩
  | 90 => ⟨S128x4x8x1, .f32⟩
  | 91 => ⟨S128x4x8x1, .f32⟩
  | 92 => ⟨S_, .f32⟩
  | 93 => ⟨S128x4x8x1, .f32⟩
  | 94 => ⟨S128x4x8x1, .f32⟩
  | 95 => ⟨S128x4x8x1, .f32⟩
  | 96 => ⟨S128x4x8x128, .f32⟩
  | 97 => ⟨S128x4x8x128, .f32⟩
  | 98 => ⟨S1x1x1x128, .f32⟩
  | 99 => ⟨S128x4x8x128, .f32⟩
  | 100 => ⟨S128x4x8x128, .f32⟩
  | 101 => ⟨S64, .f32⟩
  | 102 => ⟨S64, .f32⟩
  | 103 => ⟨S_, .f32⟩
  | 104 => ⟨S64, .f32⟩
  | 105 => ⟨S64, .f32⟩
  | 106 => ⟨S_, .f32⟩
  | 107 => ⟨S64, .f32⟩
  | 108 => ⟨S64, .f32⟩
  | 109 => ⟨S4, .f32⟩
  | 110 => ⟨S4x1, .f32⟩
  | 111 => ⟨S1x64, .f32⟩
  | 112 => ⟨S4x64, .f32⟩
  | 113 => ⟨S4x64, .f32⟩
  | 114 => ⟨S4x64, .f32⟩
  | 115 => ⟨S4x64, .f32⟩
  | 116 => ⟨S1x4x1x64, .f32⟩
  | 117 => ⟨S4x64, .f32⟩
  | 118 => ⟨S1x4x1x64, .f32⟩
  | 119 => ⟨S128x4x8x64, .f32⟩
  | 120 => ⟨S128x4x8x64, .f32⟩
  | 121 => ⟨S128x4x8x64, .f32⟩
  | 122 => ⟨S128x4x8x64, .f32⟩
  | 123 => ⟨S128x4x8x64, .f32⟩
  | 124 => ⟨S128x4x8x64, .f32⟩
  | 125 => ⟨S128x4x8x64, .f32⟩
  | 126 => ⟨S128x4x8x64, .f32⟩
  | 127 => ⟨S128x4x8x64, .f32⟩
  | _ => ⟨S512x1024, .f32⟩

abbrev hbmTy0_1 (i : Nat) : BufTy := match i % 128 with
  | 0 => ⟨S128x4x8x64, .f32⟩
  | 1 => ⟨S128x4x8x64, .f32⟩
  | 2 => ⟨S128x4x8x64, .f32⟩
  | 3 => ⟨S128x4x8x128, .f32⟩
  | 4 => ⟨S512x1024, .f32⟩
  | 5 => ⟨S512x1024, .f32⟩
  | 6 => ⟨S512x1024, .f32⟩
  | _ => ⟨S512x1024, .f32⟩

abbrev hbmTy (i : Nat) : BufTy := match i / 128 with
  | 0 => hbmTy0_0 i
  | 1 => hbmTy0_1 i
  | _ => ⟨S512x1024, .f32⟩

abbrev bufTy : (tb : Table) → Fin (tcTables nBuf tb) → BufTy
  | .hbm, ⟨i, _⟩ => hbmTy i
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_cst_7 : Ref sig .tc := ⟨.hbm, 86, rfl⟩
abbrev main_v72 : Ref sig .tc := ⟨.hbm, 87, rfl⟩
abbrev main_v73 : Ref sig .tc := ⟨.hbm, 88, rfl⟩
abbrev main_cst_8 : Ref sig .tc := ⟨.hbm, 89, rfl⟩
abbrev main_v74 : Ref sig .tc := ⟨.hbm, 90, rfl⟩
abbrev main_v75 : Ref sig .tc := ⟨.hbm, 91, rfl⟩
abbrev main_cst_9 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_cst_10 : Ref sig .tc := ⟨.hbm, 103, rfl⟩
abbrev main_v86 : Ref sig .tc := ⟨.hbm, 104, rfl⟩
abbrev main_v87 : Ref sig .tc := ⟨.hbm, 105, rfl⟩
abbrev main_cst_11 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩

abbrev nD : Nat := 1
abbrev τ : Topo := Topo.v7x

variable {F : FTy → Type} [FloatOps F]
-- ==== Proof.FfnRow.lean ====
/- The feed-forward block on one row, as plain sums over the extended reals: the mathematics that the
   kernels' chunked loops and the plain references meet in. -/
module

public import Idealize.ShloMosaic.Lib.Pointwise

@[expose] public section

noncomputable section

namespace Cert.FfnRow

open Idealize.ShloMosaic

/-- The reciprocal root mean square of a row, its length given as the word `d` of a binary32 constant
    (the small constant under the root is the layer's epsilon). -/
def rms {K : ℕ} (d : BitVec 32) (x : Fin K → EReal) : EReal :=
  Ideal.rsqrt (Ideal.div (∑ j, x j * x j) (Ideal.ofBits FTy.f32 d) + Ideal.ofBits FTy.f32 897988541#32)

/-- A row of 1024 entries normalised and weighted entry by entry. -/
def normed (x g : Fin 1024 → EReal) (k : Fin 1024) : EReal := x k * rms 1149239296#32 x * g k

/-- A normalised row times a column of a table. -/
def proj {n : ℕ} (x g : Fin 1024 → EReal) (w : Fin 1024 → Fin n → EReal) (c : Fin n) : EReal :=
  ∑ k, normed x g k * w k c

/-- Entry `e` of head `h` in a row of four heads of 256 entries; which head an entry is in, and where. -/
def at4 (h : Fin 4) (e : Fin 256) : Fin 1024 := ⟨256 * h.val + e.val, by omega⟩
def hd (k : Fin 1024) : Fin 4 := ⟨k.val / 256, by omega⟩
def el (k : Fin 1024) : Fin 256 := ⟨k.val % 256, by omega⟩

theorem at4_hd_el (k : Fin 1024) : at4 (hd k) (el k) = k := Fin.ext (Nat.div_add_mod _ _)
theorem hd_at4 (h : Fin 4) (e : Fin 256) : hd (at4 h e) = h := Fin.ext (by simp only [hd, at4]; omega)
theorem el_at4 (h : Fin 4) (e : Fin 256) : el (at4 h e) = e := Fin.ext (by simp only [el, at4]; omega)

/-- A row of four heads, each normalised by itself and weighted entry by entry, then gated by the logistic
    function of another row. -/
def gated (x o g : Fin 1024 → EReal) (h : Fin 4) (e : Fin 256) : EReal :=
  x (at4 h e) * rms 1132462080#32 (fun j => x (at4 h j)) * g (at4 h e) * Ideal.logistic (o (at4 h e))

/-- The residual row plus the projection of the gated row. -/
def gatedMix (x o g res : Fin 1024 → EReal) (w : Fin 1024 → Fin 1024 → EReal) (c : Fin 1024) : EReal :=
  res c + ∑ k, gated x o g (hd k) (el k) * w k c

/-- Hidden unit `f`: the gate's `z · σ(z)` times the second projection. -/
def hid (h : Fin 1024 → EReal) (wg wu : Fin 1024 → Fin 2816 → EReal) (f : Fin 2816) : EReal :=
  (∑ k, h k * wg k f) * Ideal.logistic (∑ k, h k * wg k f) * ∑ k, h k * wu k f

/-- The block with its residual: entry `c` of `x + W_d (silu(W_g h) · (W_u h))` for `h` the normalised row. -/
def ffn (x g : Fin 1024 → EReal) (wg wu : Fin 1024 → Fin 2816 → EReal) (wd : Fin 2816 → Fin 1024 → EReal)
    (c : Fin 1024) : EReal :=
  x c + ∑ f, hid (normed x g) wg wu f * wd f c

/-- The part of a sum over the 2816 hidden units that 256 neighbours starting at `o` contribute. -/
def part (φ : Fin 2816 → EReal) (o : ℕ) (h : o + 256 ≤ 2816) : EReal :=
  ∑ i : Fin 256, φ ⟨o + i.val, by omega⟩

/-- A sum over the 2816 hidden units, taken in eleven chunks of 256. -/
theorem sum_chunks (φ : Fin 2816 → EReal) :
    ∑ f, φ f = ∑ j : Fin 11, part φ (256 * j.val) (by omega) := by
  rw [← (finProdFinEquiv (m := 11) (n := 256)).sum_comp (fun f : Fin (11 * 256) => φ f), Fintype.sum_prod_type]
  refine Finset.sum_congr rfl fun j _ => Finset.sum_congr rfl fun i _ => congrArg φ (Fin.ext ?_)
  exact Nat.add_comm _ _

/-- The same sum added to `a` chunk after chunk, in the order the kernels' loops add it. -/
theorem add_sum_chunks (a : EReal) (φ : Fin 2816 → EReal) :
    a + ∑ f, φ f = a + part φ 0 (by omega) + part φ 256 (by omega) + part φ 512 (by omega) + part φ 768 (by omega)
      + part φ 1024 (by omega) + part φ 1280 (by omega) + part φ 1536 (by omega) + part φ 1792 (by omega)
      + part φ 2048 (by omega) + part φ 2304 (by omega) + part φ 2560 (by omega) := by
  rw [sum_chunks]
  simp only [Fin.sum_univ_succ, Fin.sum_univ_zero, add_assoc, add_zero]
  rfl

end Cert.FfnRow

end
-- ==== Proof.AttnSampleBody.lean ====
/- What one grid point of the attention layer's output call leaves in its block when it runs on the sample's 512 rows, 256 a point. -/
module

public import proofs.«01_k».proof.Proof.Gen.KernelIdeal.Value
public import proofs.«01_k».proof.Proof.FfnRow
public import Idealize.ShloMosaic.Lib.Pointwise
public import Idealize.ShloMosaic.Lib.Pipeline.ValueKit

@[expose] public section

set_option maxRecDepth 16384

noncomputable section

namespace Cert.KernelIdeal.Body

open Cert.KernelIdeal Cert.KernelIdeal.Gen Cert.FfnRow Idealize.ShloMosaic Idealize.ShloMosaic.TcCoe
  Idealize.SL.Sem

/-- One step of the loop over the hidden units: the accumulator plus what 256 of them contribute. -/
def step {F : FTy → Type} [FloatOps F] (hb : FVec F S256x1024 .bf16) (acc : FVec F S256x1024 .f32)
    (wg wu : Vec F S1024x256 .bf16) (wd : Vec F S256x1024 .bf16) : FVec F S256x1024 .f32 :=
  let g : FVec F S256x256 .f32 :=
    matmul dot_S256x1024_S1024x256_S256x256_1_0_0_1_n_n none hb
      (shapeCast S1024x256 wg shapeCasts_S1024x256_S1024x256) (constant S256x256 .f32 0x00000000#32)
  let u : FVec F S256x256 .f32 :=
    matmul dot_S256x1024_S1024x256_S256x256_1_0_0_1_n_n none hb
      (shapeCast S1024x256 wu shapeCasts_S1024x256_S1024x256) (constant S256x256 .f32 0x00000000#32)
  addf acc (matmul dot_S256x256_S256x1024_S256x1024_1_0_0_1_n_n none
    (truncf .bf16 (mulf (mulf g (logistic g)) u) bitsLt_bf16_f32)
    (shapeCast S256x1024 wd shapeCasts_S256x1024_S256x1024) (constant S256x1024 .f32 0x00000000#32))

/-- A step whose weights are the chunk at `o` of the whole tables adds that chunk's part of the sum. -/
theorem step_apply (hb : FVec Ideal S256x1024 .bf16) (acc : FVec Ideal S256x1024 .f32)
    (wg wu : Vec Ideal S1024x256 .bf16) (wd : Vec Ideal S256x1024 .bf16)
    (g u : Vec Ideal S1024x2816 .bf16) (d : Vec Ideal S2816x1024 .bf16) (o : ℕ) (ho : o + 256 ≤ 2816)
    (hg : ∀ (k : Fin 1024) (i : Fin 256), wg (ix2 k i) = g (ix2 k ⟨o + i.val, by omega⟩))
    (hu : ∀ (k : Fin 1024) (i : Fin 256), wu (ix2 k i) = u (ix2 k ⟨o + i.val, by omega⟩))
    (hd : ∀ (i : Fin 256) (k : Fin 1024), wd (ix2 i k) = d (ix2 ⟨o + i.val, by omega⟩ k))
    (r : Fin 256) (c : Fin 1024) :
    step hb acc wg wu wd (ix2 r c) = acc (ix2 r c)
      + part (fun f => hid (fun k => hb (ix2 r k)) (fun k f => g (ix2 k f)) (fun k f => u (ix2 k f)) f * d (ix2 f c)) o ho := by
  pointwise [step]
  simp only [hg, hu, hd]
  rfl

/-- The block's row before the feed-forward part: the residual plus the projected attention. -/
def mixed (x0 x1 : Vec Ideal S256x1024 .f32) (x2 : Vec Ideal S1024x1024 .bf16) (r : Fin 256) (c : Fin 1024) : EReal :=
  x1 (ix2 r c) + ∑ k, x0 (ix2 r k) * x2 (ix2 k c)

theorem pay2_apply (v0 v1 : Vec Ideal S256x1024 .f32) (v3 : Vec Ideal S1024x1024 .bf16) (r : Fin 256) (c : Fin 1024) :
    k0_pay2 v0 v1 v3 (ix2 r c) = mixed v1 v0 v3 r c := by
  pointwise [k0_pay2]
  rfl

theorem pay3_apply (v0 v1 : Vec Ideal S256x1024 .f32) (v3 : Vec Ideal S1024x1024 .bf16) (v7 : Vec Ideal S1x1024 .f32)
    (r : Fin 256) (c : Fin 1024) :
    k0_pay3 v0 v1 v3 v7 (ix2 r c) = normed (mixed v1 v0 v3 r) (fun k => v7 (ix2 0 k)) c := by
  pointwise [k0_pay3]
  simp only [pay2_apply]
  rfl

/-- THE BLOCK'S VALUE at row `r`, column `c`. -/
theorem out_apply (x0 x1 : Vec Ideal S256x1024 .f32) (x2 : Vec Ideal S1024x1024 .bf16) (x3 : Vec Ideal S1x1024 .f32)
    (x4 x5 : Vec Ideal S1024x2816 .bf16) (x6 : Vec Ideal S2816x1024 .bf16) (r : Fin 256) (c : Fin 1024) :
    out0_7 x0 x1 x2 x3 x4 x5 x6 (ix2 r c) =
      ffn (mixed x0 x1 x2 r) (fun k => x3 (ix2 0 k)) (fun k f => x4 (ix2 k f)) (fun k f => x5 (ix2 k f))
        (fun f k => x6 (ix2 f k)) c := by
  unfold_out out0_7
  frame_out
  show step (k0_pay3 x1 x0 x2 x3) (step (k0_pay3 x1 x0 x2 x3) (step (k0_pay3 x1 x0 x2 x3) (step (k0_pay3 x1 x0 x2 x3)
    (step (k0_pay3 x1 x0 x2 x3) (step (k0_pay3 x1 x0 x2 x3) (step (k0_pay3 x1 x0 x2 x3) (step (k0_pay3 x1 x0 x2 x3)
    (step (k0_pay3 x1 x0 x2 x3) (step (k0_pay3 x1 x0 x2 x3) (step (k0_pay3 x1 x0 x2 x3) (k0_pay2 x1 x0 x2)
      (View.ld x4 r0_3) (View.ld x5 r0_3) (View.ld x6 r0_4)) (View.ld x4 r0_5) (View.ld x5 r0_5) (View.ld x6 r0_6))
      (View.ld x4 r0_7) (View.ld x5 r0_7) (View.ld x6 r0_8)) (View.ld x4 r0_9) (View.ld x5 r0_9) (View.ld x6 r0_10))
      (View.ld x4 r0_11) (View.ld x5 r0_11) (View.ld x6 r0_12)) (View.ld x4 r0_13) (View.ld x5 r0_13) (View.ld x6 r0_14))
      (View.ld x4 r0_15) (View.ld x5 r0_15) (View.ld x6 r0_16)) (View.ld x4 r0_17) (View.ld x5 r0_17) (View.ld x6 r0_18))
      (View.ld x4 r0_19) (View.ld x5 r0_19) (View.ld x6 r0_20)) (View.ld x4 r0_21) (View.ld x5 r0_21) (View.ld x6 r0_22))
      (View.ld x4 r0_23) (View.ld x5 r0_23) (View.ld x6 r0_24) (ix2 r c) = _
  rw [ffn, add_sum_chunks]
  rw [step_apply _ _ _ _ _ x4 x5 x6 2560 (by omega), step_apply _ _ _ _ _ x4 x5 x6 2304 (by omega),
    step_apply _ _ _ _ _ x4 x5 x6 2048 (by omega), step_apply _ _ _ _ _ x4 x5 x6 1792 (by omega),
    step_apply _ _ _ _ _ x4 x5 x6 1536 (by omega), step_apply _ _ _ _ _ x4 x5 x6 1280 (by omega),
    step_apply _ _ _ _ _ x4 x5 x6 1024 (by omega), step_apply _ _ _ _ _ x4 x5 x6 768 (by omega),
    step_apply _ _ _ _ _ x4 x5 x6 512 (by omega), step_apply _ _ _ _ _ x4 x5 x6 256 (by omega),
    step_apply _ _ _ _ _ x4 x5 x6 0 (by omega), pay2_apply]
  · simp only [pay3_apply]
  all_goals (intro k i; pointwise)

end Cert.KernelIdeal.Body

end
-- ==== Proof.AttnSampleRef.lean ====
/- The plain reference of the attention layer's output call on the sample's 512 rows, read at a row and a column. -/
module

public import proofs.«01_k».proof.Proof.Gen.ReferenceIdeal.Read
public import proofs.«01_k».proof.Proof.FfnRow
public import Idealize.ShloMosaic.Lib.Pointwise
public import Idealize.ShloMosaic.Lib.Tactic.CleanTypes

@[expose] public section

set_option maxRecDepth 16384

noncomputable section

namespace Cert.ReferenceIdeal.Row

open Cert.ReferenceIdeal Cert.ReferenceIdeal.Gen Cert.ReferenceIdeal.Read Cert.FfnRow Idealize.ShloMosaic
  Idealize.ShloMosaic.TcCoe Idealize.SL.Sem

variable (x0 x1 : (⟨S512x1024, .f32⟩ : BufTy).Contents (Elt Ideal))
  (x2 : (⟨S1x1024x1024, .f32⟩ : BufTy).Contents (Elt Ideal)) (x3 : (⟨S2x1024, .f32⟩ : BufTy).Contents (Elt Ideal))
  (x4 : (⟨S2x1024x5632, .f32⟩ : BufTy).Contents (Elt Ideal)) (x5 : (⟨S2x2816x1024, .f32⟩ : BufTy).Contents (Elt Ideal))

/-- The residual row plus the projected attention row. -/
def mixed (r : Fin 512) (c : Fin 1024) : EReal := x1 (ix2 r c) + ∑ k, x0 (ix2 r k) * x2 (ix3 0 k c)

theorem v2_apply (r : Fin 512) (c : Fin 1024) : val_main_v2 x0 x1 x2 (ix2 r c) = mixed x0 x1 x2 r c := by
  unfold val_main_v2 val_main_v1 val_main_v0
  clean_types
  pointwise
  rfl

theorem v21_apply (r : Fin 512) (c : Fin 1024) :
    val_main_v21 x0 x1 x2 x3 (ix2 r c) = normed (mixed x0 x1 x2 r) (fun k => x3 (ix2 1 k)) c := by
  unfold val_main_v21 val_main_v20 val_main_v19 val_main_v18 val_main_v17 val_main_v16 val_main_v15 val_main_v14
    val_main_v13 val_main_v12 val_main_v11 val_main_v10 val_main_v9 val_main_v4 val_main_v3 val_main_cst val_main_cst_0
    val_main_cst_1
  clean_types
  pointwise
  simp only [v2_apply]
  rfl

/-- The two halves of the gate and up projections' table. -/
def wg (k : Fin 1024) (f : Fin 2816) : EReal := x4 (ix3 1 k ⟨f.val, by omega⟩)
def wu (k : Fin 1024) (f : Fin 2816) : EReal := x4 (ix3 1 k ⟨2816 + f.val, by omega⟩)

theorem v26_apply (r : Fin 512) (f : Fin 2816) :
    val_main_v26 x0 x1 x2 x3 x4 (ix2 r f)
      = hid (normed (mixed x0 x1 x2 r) (fun k => x3 (ix2 1 k))) (wg x4) (wu x4) f := by
  unfold val_main_v26 val_main_v25 val_main_v24 val_main_call0_v5 val_main_call0_v4 val_main_call0_v3 val_main_call0_v2
    val_main_call0_v1 val_main_call0_v0 val_main_call0_cst val_main_call0_cst_0 val_main_v23 val_main_v22 val_main_v6
    val_main_v5
  clean_types
  pointwise
  simp only [v21_apply]
  rfl

theorem v28_apply (r : Fin 512) (c : Fin 1024) :
    val_main_v28 x0 x1 x2 x3 x4 x5 (ix2 r c)
      = ffn (mixed x0 x1 x2 r) (fun k => x3 (ix2 1 k)) (wg x4) (wu x4) (fun f k => x5 (ix3 1 f k)) c := by
  unfold val_main_v28 val_main_v27 val_main_v8 val_main_v7
  clean_types
  pointwise
  simp only [v2_apply, v26_apply]
  rfl

end Cert.ReferenceIdeal.Row

end
-- ==== Proof.AttnSample.lean ====
/- The attention layer's output call on the sample's rows: its whole result array is the plain reference's. -/
module

public import proofs.«01_k».proof.Proof.AttnSampleBody
public import proofs.«01_k».proof.Proof.Gen.KernelIdeal.Value
public import proofs.«01_k».proof.Proof.AttnSampleRef
public import Idealize.ShloMosaic.Lib.StableHlo.ReadAt

@[expose] public section

set_option maxRecDepth 16384

noncomputable section

namespace Cert.KernelIdeal.Final

open Cert.KernelIdeal Cert.KernelIdeal.Gen Cert.FfnRow Idealize.ShloMosaic Idealize.ShloMosaic.TcCoe
  Idealize.SL.Sem
open Idealize.ShloMosaic.Pipeline (Dat)

variable (m : (ℓ : Loc nD τ sig) → Buf (Elt Ideal) ℓ) (c : Dev nD)

/-- The host's preparations, read at an index: slices of the arguments, the format change being the identity. -/
theorem w_out (k e : Fin 1024) : V m c main_v1 (ix2 k e) = m (c, main_arg2) (ix3 0 k e) := by
  unfold V
  after_reads_at

theorem w_norm (e : Fin 1024) : V m c main_v4 (ix2 0 e) = m (c, main_arg3) (ix2 1 e) := by
  unfold V
  after_reads_at

theorem w_gate (k : Fin 1024) (f : Fin 2816) :
    V m c main_v8 (ix2 k f) = m (c, main_arg4) (ix3 1 k ⟨f.val, by omega⟩) := by
  unfold V
  after_reads_at

theorem w_up (k : Fin 1024) (f : Fin 2816) :
    V m c main_v12 (ix2 k f) = m (c, main_arg4) (ix3 1 k ⟨2816 + f.val, by omega⟩) := by
  unfold V
  after_reads_at

theorem w_down (f : Fin 2816) (k : Fin 1024) : V m c main_v15 (ix2 f k) = m (c, main_arg5) (ix3 1 f k) := by
  unfold V
  after_reads_at

/-- Row `r` of block `t`. -/
abbrev row (t : Fin cfg0.N) (r : Fin 256) : Fin 512 :=
  ⟨t.val * 256 + r.val, by have := t.isLt; have : cfg0.N = 2 := rfl; omega⟩

/-- Where the windows stand at a grid point: row block `t`, or the whole table. -/
theorem idx (t : Fin cfg0.N) : win0_0.index t = ![t.val, 0] ∧ win0_1.index t = ![t.val, 0]
    ∧ win0_2.index t = ![0, 0] ∧ win0_3.index t = ![0, 0] ∧ win0_4.index t = ![0, 0] ∧ win0_5.index t = ![0, 0]
    ∧ win0_6.index t = ![0, 0] ∧ win0_7.index t = ![t.val, 0] := by
  revert t
  decide +kernel

/-- The blocks each grid point reads. -/
theorem blk0 (t : Fin cfg0.N) (r : Fin 256) (k : Fin 1024) :
    iblk m c 0 t (ix2 r k) = m (c, main_arg0) (ix2 (row t r) k) := by
  blk_ext [iblk, V, idx t]

theorem blk1 (t : Fin cfg0.N) (r : Fin 256) (k : Fin 1024) :
    iblk m c 1 t (ix2 r k) = m (c, main_arg1) (ix2 (row t r) k) := by
  blk_ext [iblk, V, idx t]

theorem blk2 (t : Fin cfg0.N) (r : Fin 1024) (k : Fin 1024) :
    iblk m c 2 t (ix2 r k) = m (c, main_arg2) (ix3 0 r k) := by
  refine Eq.trans ?_ (w_out m c _ _)
  blk_ext [iblk, idx t]

theorem blk3 (t : Fin cfg0.N) (k : Fin 1024) :
    iblk m c 3 t (ix2 0 k) = m (c, main_arg3) (ix2 1 k) := by
  refine Eq.trans ?_ (w_norm m c _)
  blk_ext [iblk, idx t]

theorem blk4 (t : Fin cfg0.N) (k : Fin 1024) (f : Fin 2816) :
    iblk m c 4 t (ix2 k f) = m (c, main_arg4) (ix3 1 k ⟨f.val, by omega⟩) := by
  refine Eq.trans ?_ (w_gate m c _ _)
  blk_ext [iblk, idx t]

theorem blk5 (t : Fin cfg0.N) (k : Fin 1024) (f : Fin 2816) :
    iblk m c 5 t (ix2 k f) = m (c, main_arg4) (ix3 1 k ⟨2816 + f.val, by omega⟩) := by
  refine Eq.trans ?_ (w_up m c _ _)
  blk_ext [iblk, idx t]

theorem blk6 (t : Fin cfg0.N) (f : Fin 2816) (k : Fin 1024) :
    iblk m c 6 t (ix2 f k) = m (c, main_arg5) (ix3 1 f k) := by
  refine Eq.trans ?_ (w_down m c _ _)
  blk_ext [iblk, idx t]

/-- What the call returns is the reference's array of the same six arguments. -/
theorem final : (dats m 0 c).arrAt 7 cfg0.N
    = Cert.ReferenceIdeal.Read.val_main_v28 (F := Ideal) (m (c, main_arg0)) (m (c, main_arg1)) (m (c, main_arg2))
        (m (c, main_arg3)) (m (c, main_arg4)) (m (c, main_arg5)) := by
  refine (dats m 0 c).arrAt_eq_of_covers 7 _ (by decide +kernel) fun t hf y => ?_
  rw [after0_7]
  idx_vars y
  blk_simp
  have e : ((cfg0.win 7).blk t).view.emb (ix2 y0 y1) = ix2 (row t y0) y1 := by
    blk_ext [idx t]
  erw [e]
  rw [Cert.ReferenceIdeal.Row.v28_apply, Body.out_apply]
  have hm : Body.mixed (iblk m c 0 t) (iblk m c 1 t) (iblk m c 2 t) y0
      = Cert.ReferenceIdeal.Row.mixed (m (c, main_arg0)) (m (c, main_arg1)) (m (c, main_arg2)) (row t y0) := by
    funext e
    simp only [Body.mixed, Cert.ReferenceIdeal.Row.mixed, blk0, blk1, blk2]
  rw [hm]
  simp only [blk3, blk4, blk5, blk6]
  rfl

/-- A run of the call ends with the reference's array in the result and the arguments as they were. -/
theorem run (ρ : Dev nD → PrngReg) :
    θ_run defs (onTc (τ := τ) (main (F := Ideal))) ⟨m, fun _ => 0, ρ⟩ fun r => ∀ c : Dev nD,
      r.2.mem ((c : Thread nD τ).loc main_v16)
        = Cert.ReferenceIdeal.Read.val_main_v28 (F := Ideal) (m (c, main_arg0)) (m (c, main_arg1)) (m (c, main_arg2))
            (m (c, main_arg3)) (m (c, main_arg4)) (m (c, main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun r h c => ?_) (Cert.KernelIdeal.Value.run_blocks m ρ)
  rw [← final]
  exact h c

end Cert.KernelIdeal.Final

end
-- ==== Proof.AttnFfnBody.lean ====
/- What one grid point of the attention layer's output call leaves in its block: the feed-forward row of
   `FfnRow` over the point's own blocks. -/
module

public import proofs.«01_k».proof.Proof.Gen.Kernel2Ideal.Value
public import proofs.«01_k».proof.Proof.FfnRow
public import Idealize.ShloMosaic.Lib.Pointwise
public import Idealize.ShloMosaic.Lib.Pipeline.ValueKit

@[expose] public section

set_option maxRecDepth 16384

noncomputable section

namespace Cert.Kernel2Ideal.Body

open Cert.Kernel2Ideal Cert.Kernel2Ideal.Gen Cert.FfnRow Idealize.ShloMosaic Idealize.ShloMosaic.TcCoe
  Idealize.SL.Sem

/-- One step of the loop over the hidden units: the accumulator plus what 256 of them contribute. -/
def step {F : FTy → Type} [FloatOps F] (hb : FVec F S512x1024 .bf16) (acc : FVec F S512x1024 .f32)
    (wg wu : Vec F S1024x256 .bf16) (wd : Vec F S256x1024 .bf16) : FVec F S512x1024 .f32 :=
  let g : FVec F S512x256 .f32 :=
    matmul dot_S512x1024_S1024x256_S512x256_1_0_0_1_n_n none hb
      (shapeCast S1024x256 wg shapeCasts_S1024x256_S1024x256) (constant S512x256 .f32 0x00000000#32)
  let u : FVec F S512x256 .f32 :=
    matmul dot_S512x1024_S1024x256_S512x256_1_0_0_1_n_n none hb
      (shapeCast S1024x256 wu shapeCasts_S1024x256_S1024x256) (constant S512x256 .f32 0x00000000#32)
  addf acc (matmul dot_S512x256_S256x1024_S512x1024_1_0_0_1_n_n none
    (truncf .bf16 (mulf (mulf g (logistic g)) u) bitsLt_bf16_f32)
    (shapeCast S256x1024 wd shapeCasts_S256x1024_S256x1024) (constant S512x1024 .f32 0x00000000#32))

/-- A step whose weights are the chunk at `o` of the whole tables adds that chunk's part of the sum. -/
theorem step_apply (hb : FVec Ideal S512x1024 .bf16) (acc : FVec Ideal S512x1024 .f32)
    (wg wu : Vec Ideal S1024x256 .bf16) (wd : Vec Ideal S256x1024 .bf16)
    (g u : Vec Ideal S1024x2816 .bf16) (d : Vec Ideal S2816x1024 .bf16) (o : ℕ) (ho : o + 256 ≤ 2816)
    (hg : ∀ (k : Fin 1024) (i : Fin 256), wg (ix2 k i) = g (ix2 k ⟨o + i.val, by omega⟩))
    (hu : ∀ (k : Fin 1024) (i : Fin 256), wu (ix2 k i) = u (ix2 k ⟨o + i.val, by omega⟩))
    (hd : ∀ (i : Fin 256) (k : Fin 1024), wd (ix2 i k) = d (ix2 ⟨o + i.val, by omega⟩ k))
    (r : Fin 512) (c : Fin 1024) :
    step hb acc wg wu wd (ix2 r c) = acc (ix2 r c)
      + part (fun f => hid (fun k => hb (ix2 r k)) (fun k f => g (ix2 k f)) (fun k f => u (ix2 k f)) f * d (ix2 f c)) o ho := by
  pointwise [step]
  simp only [hg, hu, hd]
  rfl

/-- The block's row before the feed-forward part: the residual plus the projected attention. -/
def mixed (x0 x1 : Vec Ideal S512x1024 .f32) (x2 : Vec Ideal S1024x1024 .bf16) (r : Fin 512) (c : Fin 1024) : EReal :=
  x1 (ix2 r c) + ∑ k, x0 (ix2 r k) * x2 (ix2 k c)

theorem pay2_apply (v0 v1 : Vec Ideal S512x1024 .f32) (v3 : Vec Ideal S1024x1024 .bf16) (r : Fin 512) (c : Fin 1024) :
    k0_pay2 v0 v1 v3 (ix2 r c) = mixed v1 v0 v3 r c := by
  pointwise [k0_pay2]
  rfl

theorem pay3_apply (v0 v1 : Vec Ideal S512x1024 .f32) (v3 : Vec Ideal S1024x1024 .bf16) (v7 : Vec Ideal S1x1024 .f32)
    (r : Fin 512) (c : Fin 1024) :
    k0_pay3 v0 v1 v3 v7 (ix2 r c) = normed (mixed v1 v0 v3 r) (fun k => v7 (ix2 0 k)) c := by
  pointwise [k0_pay3]
  simp only [pay2_apply]
  rfl

/-- THE BLOCK'S VALUE at row `r`, column `c`. -/
theorem out_apply (x0 x1 : Vec Ideal S512x1024 .f32) (x2 : Vec Ideal S1024x1024 .bf16) (x3 : Vec Ideal S1x1024 .f32)
    (x4 x5 : Vec Ideal S1024x2816 .bf16) (x6 : Vec Ideal S2816x1024 .bf16) (r : Fin 512) (c : Fin 1024) :
    out0_7 x0 x1 x2 x3 x4 x5 x6 (ix2 r c) =
      ffn (mixed x0 x1 x2 r) (fun k => x3 (ix2 0 k)) (fun k f => x4 (ix2 k f)) (fun k f => x5 (ix2 k f))
        (fun f k => x6 (ix2 f k)) c := by
  unfold_out out0_7
  frame_out
  show step (k0_pay3 x1 x0 x2 x3) (step (k0_pay3 x1 x0 x2 x3) (step (k0_pay3 x1 x0 x2 x3) (step (k0_pay3 x1 x0 x2 x3)
    (step (k0_pay3 x1 x0 x2 x3) (step (k0_pay3 x1 x0 x2 x3) (step (k0_pay3 x1 x0 x2 x3) (step (k0_pay3 x1 x0 x2 x3)
    (step (k0_pay3 x1 x0 x2 x3) (step (k0_pay3 x1 x0 x2 x3) (step (k0_pay3 x1 x0 x2 x3) (k0_pay2 x1 x0 x2)
      (View.ld x4 r0_3) (View.ld x5 r0_3) (View.ld x6 r0_4)) (View.ld x4 r0_5) (View.ld x5 r0_5) (View.ld x6 r0_6))
      (View.ld x4 r0_7) (View.ld x5 r0_7) (View.ld x6 r0_8)) (View.ld x4 r0_9) (View.ld x5 r0_9) (View.ld x6 r0_10))
      (View.ld x4 r0_11) (View.ld x5 r0_11) (View.ld x6 r0_12)) (View.ld x4 r0_13) (View.ld x5 r0_13) (View.ld x6 r0_14))
      (View.ld x4 r0_15) (View.ld x5 r0_15) (View.ld x6 r0_16)) (View.ld x4 r0_17) (View.ld x5 r0_17) (View.ld x6 r0_18))
      (View.ld x4 r0_19) (View.ld x5 r0_19) (View.ld x6 r0_20)) (View.ld x4 r0_21) (View.ld x5 r0_21) (View.ld x6 r0_22))
      (View.ld x4 r0_23) (View.ld x5 r0_23) (View.ld x6 r0_24) (ix2 r c) = _
  rw [ffn, add_sum_chunks]
  rw [step_apply _ _ _ _ _ x4 x5 x6 2560 (by omega), step_apply _ _ _ _ _ x4 x5 x6 2304 (by omega),
    step_apply _ _ _ _ _ x4 x5 x6 2048 (by omega), step_apply _ _ _ _ _ x4 x5 x6 1792 (by omega),
    step_apply _ _ _ _ _ x4 x5 x6 1536 (by omega), step_apply _ _ _ _ _ x4 x5 x6 1280 (by omega),
    step_apply _ _ _ _ _ x4 x5 x6 1024 (by omega), step_apply _ _ _ _ _ x4 x5 x6 768 (by omega),
    step_apply _ _ _ _ _ x4 x5 x6 512 (by omega), step_apply _ _ _ _ _ x4 x5 x6 256 (by omega),
    step_apply _ _ _ _ _ x4 x5 x6 0 (by omega), pay2_apply]
  · simp only [pay3_apply]
  all_goals (intro k i; pointwise)

end Cert.Kernel2Ideal.Body

end
-- ==== Proof.AttnFfnRef.lean ====
/- The plain reference of the attention layer's output call, read at a row and a column. -/
module

public import proofs.«01_k».proof.Proof.Gen.Reference2Ideal.Read
public import proofs.«01_k».proof.Proof.FfnRow
public import Idealize.ShloMosaic.Lib.Pointwise
public import Idealize.ShloMosaic.Lib.Tactic.CleanTypes

@[expose] public section

set_option maxRecDepth 16384

noncomputable section

namespace Cert.Reference2Ideal.Row

open Cert.Reference2Ideal Cert.Reference2Ideal.Gen Cert.Reference2Ideal.Read Cert.FfnRow Idealize.ShloMosaic
  Idealize.ShloMosaic.TcCoe Idealize.SL.Sem

variable (x0 x1 : (⟨S16384x1024, .f32⟩ : BufTy).Contents (Elt Ideal))
  (x2 : (⟨S1x1024x1024, .f32⟩ : BufTy).Contents (Elt Ideal)) (x3 : (⟨S2x1024, .f32⟩ : BufTy).Contents (Elt Ideal))
  (x4 : (⟨S2x1024x5632, .f32⟩ : BufTy).Contents (Elt Ideal)) (x5 : (⟨S2x2816x1024, .f32⟩ : BufTy).Contents (Elt Ideal))

/-- The residual row plus the projected attention row. -/
def mixed (r : Fin 16384) (c : Fin 1024) : EReal := x1 (ix2 r c) + ∑ k, x0 (ix2 r k) * x2 (ix3 0 k c)

theorem v2_apply (r : Fin 16384) (c : Fin 1024) : val_main_v2 x0 x1 x2 (ix2 r c) = mixed x0 x1 x2 r c := by
  unfold val_main_v2 val_main_v1 val_main_v0
  clean_types
  pointwise
  rfl

theorem v21_apply (r : Fin 16384) (c : Fin 1024) :
    val_main_v21 x0 x1 x2 x3 (ix2 r c) = normed (mixed x0 x1 x2 r) (fun k => x3 (ix2 1 k)) c := by
  unfold val_main_v21 val_main_v20 val_main_v19 val_main_v18 val_main_v17 val_main_v16 val_main_v15 val_main_v14
    val_main_v13 val_main_v12 val_main_v11 val_main_v10 val_main_v9 val_main_v4 val_main_v3 val_main_cst val_main_cst_0
    val_main_cst_1
  clean_types
  pointwise
  simp only [v2_apply]
  rfl

/-- The two halves of the gate and up projections' table. -/
def wg (k : Fin 1024) (f : Fin 2816) : EReal := x4 (ix3 1 k ⟨f.val, by omega⟩)
def wu (k : Fin 1024) (f : Fin 2816) : EReal := x4 (ix3 1 k ⟨2816 + f.val, by omega⟩)

theorem v26_apply (r : Fin 16384) (f : Fin 2816) :
    val_main_v26 x0 x1 x2 x3 x4 (ix2 r f)
      = hid (normed (mixed x0 x1 x2 r) (fun k => x3 (ix2 1 k))) (wg x4) (wu x4) f := by
  unfold val_main_v26 val_main_v25 val_main_v24 val_main_call0_v5 val_main_call0_v4 val_main_call0_v3 val_main_call0_v2
    val_main_call0_v1 val_main_call0_v0 val_main_call0_cst val_main_call0_cst_0 val_main_v23 val_main_v22 val_main_v6
    val_main_v5
  clean_types
  pointwise
  simp only [v21_apply]
  rfl

theorem v28_apply (r : Fin 16384) (c : Fin 1024) :
    val_main_v28 x0 x1 x2 x3 x4 x5 (ix2 r c)
      = ffn (mixed x0 x1 x2 r) (fun k => x3 (ix2 1 k)) (wg x4) (wu x4) (fun f k => x5 (ix3 1 f k)) c := by
  unfold val_main_v28 val_main_v27 val_main_v8 val_main_v7
  clean_types
  pointwise
  simp only [v2_apply, v26_apply]
  rfl

end Cert.Reference2Ideal.Row

end
-- ==== Proof.AttnFfn.lean ====
/- The attention layer's output call: its whole result array is the plain reference's. -/
module

public import proofs.«01_k».proof.Proof.AttnFfnBody
public import proofs.«01_k».proof.Proof.Gen.Kernel2Ideal.Value
public import proofs.«01_k».proof.Proof.AttnFfnRef
public import Idealize.ShloMosaic.Lib.StableHlo.ReadAt

@[expose] public section

set_option maxRecDepth 16384

noncomputable section

namespace Cert.Kernel2Ideal.Final

open Cert.Kernel2Ideal Cert.Kernel2Ideal.Gen Cert.FfnRow Idealize.ShloMosaic Idealize.ShloMosaic.TcCoe
  Idealize.SL.Sem
open Idealize.ShloMosaic.Pipeline (Dat)

variable (m : (ℓ : Loc nD τ sig) → Buf (Elt Ideal) ℓ) (c : Dev nD)

/-- The host's preparations, read at an index: slices of the arguments, the format change being the identity. -/
theorem w_out (k e : Fin 1024) : V m c main_v1 (ix2 k e) = m (c, main_arg2) (ix3 0 k e) := by
  unfold V
  after_reads_at

theorem w_norm (e : Fin 1024) : V m c main_v4 (ix2 0 e) = m (c, main_arg3) (ix2 1 e) := by
  unfold V
  after_reads_at

theorem w_gate (k : Fin 1024) (f : Fin 2816) :
    V m c main_v8 (ix2 k f) = m (c, main_arg4) (ix3 1 k ⟨f.val, by omega⟩) := by
  unfold V
  after_reads_at

theorem w_up (k : Fin 1024) (f : Fin 2816) :
    V m c main_v12 (ix2 k f) = m (c, main_arg4) (ix3 1 k ⟨2816 + f.val, by omega⟩) := by
  unfold V
  after_reads_at

theorem w_down (f : Fin 2816) (k : Fin 1024) : V m c main_v15 (ix2 f k) = m (c, main_arg5) (ix3 1 f k) := by
  unfold V
  after_reads_at

/-- Row `r` of block `t`. -/
abbrev row (t : Fin cfg0.N) (r : Fin 512) : Fin 16384 :=
  ⟨t.val * 512 + r.val, by have := t.isLt; have : cfg0.N = 32 := rfl; omega⟩

/-- Where the windows stand at a grid point: row block `t`, or the whole table. -/
theorem idx (t : Fin cfg0.N) : win0_0.index t = ![t.val, 0] ∧ win0_1.index t = ![t.val, 0]
    ∧ win0_2.index t = ![0, 0] ∧ win0_3.index t = ![0, 0] ∧ win0_4.index t = ![0, 0] ∧ win0_5.index t = ![0, 0]
    ∧ win0_6.index t = ![0, 0] ∧ win0_7.index t = ![t.val, 0] := by
  revert t
  decide +kernel

/-- The blocks each grid point reads. -/
theorem blk0 (t : Fin cfg0.N) (r : Fin 512) (k : Fin 1024) :
    iblk m c 0 t (ix2 r k) = m (c, main_arg0) (ix2 (row t r) k) := by
  blk_ext [iblk, V, idx t]

theorem blk1 (t : Fin cfg0.N) (r : Fin 512) (k : Fin 1024) :
    iblk m c 1 t (ix2 r k) = m (c, main_arg1) (ix2 (row t r) k) := by
  blk_ext [iblk, V, idx t]

theorem blk2 (t : Fin cfg0.N) (r : Fin 1024) (k : Fin 1024) :
    iblk m c 2 t (ix2 r k) = m (c, main_arg2) (ix3 0 r k) := by
  refine Eq.trans ?_ (w_out m c _ _)
  blk_ext [iblk, idx t]

theorem blk3 (t : Fin cfg0.N) (k : Fin 1024) :
    iblk m c 3 t (ix2 0 k) = m (c, main_arg3) (ix2 1 k) := by
  refine Eq.trans ?_ (w_norm m c _)
  blk_ext [iblk, idx t]

theorem blk4 (t : Fin cfg0.N) (k : Fin 1024) (f : Fin 2816) :
    iblk m c 4 t (ix2 k f) = m (c, main_arg4) (ix3 1 k ⟨f.val, by omega⟩) := by
  refine Eq.trans ?_ (w_gate m c _ _)
  blk_ext [iblk, idx t]

theorem blk5 (t : Fin cfg0.N) (k : Fin 1024) (f : Fin 2816) :
    iblk m c 5 t (ix2 k f) = m (c, main_arg4) (ix3 1 k ⟨2816 + f.val, by omega⟩) := by
  refine Eq.trans ?_ (w_up m c _ _)
  blk_ext [iblk, idx t]

theorem blk6 (t : Fin cfg0.N) (f : Fin 2816) (k : Fin 1024) :
    iblk m c 6 t (ix2 f k) = m (c, main_arg5) (ix3 1 f k) := by
  refine Eq.trans ?_ (w_down m c _ _)
  blk_ext [iblk, idx t]

/-- What the call returns is the reference's array of the same six arguments. -/
theorem final : (dats m 0 c).arrAt 7 cfg0.N
    = Cert.Reference2Ideal.Read.val_main_v28 (F := Ideal) (m (c, main_arg0)) (m (c, main_arg1)) (m (c, main_arg2))
        (m (c, main_arg3)) (m (c, main_arg4)) (m (c, main_arg5)) := by
  refine (dats m 0 c).arrAt_eq_of_covers 7 _ (by decide +kernel) fun t hf y => ?_
  rw [after0_7]
  idx_vars y
  blk_simp
  have e : ((cfg0.win 7).blk t).view.emb (ix2 y0 y1) = ix2 (row t y0) y1 := by
    blk_ext [idx t]
  erw [e]
  rw [Cert.Reference2Ideal.Row.v28_apply, Body.out_apply]
  have hm : Body.mixed (iblk m c 0 t) (iblk m c 1 t) (iblk m c 2 t) y0
      = Cert.Reference2Ideal.Row.mixed (m (c, main_arg0)) (m (c, main_arg1)) (m (c, main_arg2)) (row t y0) := by
    funext e
    simp only [Body.mixed, Cert.Reference2Ideal.Row.mixed, blk0, blk1, blk2]
  rw [hm]
  simp only [blk3, blk4, blk5, blk6]
  rfl

/-- A run of the call ends with the reference's array in the result and the arguments as they were. -/
theorem run (ρ : Dev nD → PrngReg) :
    θ_run defs (onTc (τ := τ) (main (F := Ideal))) ⟨m, fun _ => 0, ρ⟩ fun r => ∀ c : Dev nD,
      r.2.mem ((c : Thread nD τ).loc main_v16)
        = Cert.Reference2Ideal.Read.val_main_v28 (F := Ideal) (m (c, main_arg0)) (m (c, main_arg1)) (m (c, main_arg2))
            (m (c, main_arg3)) (m (c, main_arg4)) (m (c, main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun r h c => ?_) (Cert.Kernel2Ideal.Value.run_blocks m ρ)
  rw [← final]
  exact h c

end Cert.Kernel2Ideal.Final

end
-- ==== Proof.MlstmFfnBody.lean ====
/- What one grid point of the recurrent layer's output call leaves in its block: the feed-forward row of
   `FfnRow` over the point's own blocks. -/
module

public import proofs.«01_k».proof.Proof.Gen.Kernel3Ideal.Value
public import proofs.«01_k».proof.Proof.FfnRow
public import Idealize.ShloMosaic.Lib.Pointwise
public import Idealize.ShloMosaic.Lib.Pipeline.ValueKit

@[expose] public section

set_option maxRecDepth 16384

noncomputable section

namespace Cert.Kernel3Ideal.Body

open Cert.Kernel3Ideal Cert.Kernel3Ideal.Gen Cert.FfnRow Idealize.ShloMosaic Idealize.ShloMosaic.TcCoe
  Idealize.SL.Sem

/-- One step of the loop over the hidden units: the accumulator plus what 256 of them contribute. -/
def step {F : FTy → Type} [FloatOps F] (hb : FVec F S512x1024 .bf16) (acc : FVec F S512x1024 .f32)
    (wg wu : Vec F S1024x256 .bf16) (wd : Vec F S256x1024 .bf16) : FVec F S512x1024 .f32 :=
  let g : FVec F S512x256 .f32 :=
    matmul dot_S512x1024_S1024x256_S512x256_1_0_0_1_n_n none hb
      (shapeCast S1024x256 wg shapeCasts_S1024x256_S1024x256) (constant S512x256 .f32 0x00000000#32)
  let u : FVec F S512x256 .f32 :=
    matmul dot_S512x1024_S1024x256_S512x256_1_0_0_1_n_n none hb
      (shapeCast S1024x256 wu shapeCasts_S1024x256_S1024x256) (constant S512x256 .f32 0x00000000#32)
  addf acc (matmul dot_S512x256_S256x1024_S512x1024_1_0_0_1_n_n none
    (truncf .bf16 (mulf (mulf g (logistic g)) u) bitsLt_bf16_f32)
    (shapeCast S256x1024 wd shapeCasts_S256x1024_S256x1024) (constant S512x1024 .f32 0x00000000#32))

/-- A step whose weights are the chunk at `o` of the whole tables adds that chunk's part of the sum. -/
theorem step_apply (hb : FVec Ideal S512x1024 .bf16) (acc : FVec Ideal S512x1024 .f32)
    (wg wu : Vec Ideal S1024x256 .bf16) (wd : Vec Ideal S256x1024 .bf16)
    (g u : Vec Ideal S1024x2816 .bf16) (d : Vec Ideal S2816x1024 .bf16) (o : ℕ) (ho : o + 256 ≤ 2816)
    (hg : ∀ (k : Fin 1024) (i : Fin 256), wg (ix2 k i) = g (ix2 k ⟨o + i.val, by omega⟩))
    (hu : ∀ (k : Fin 1024) (i : Fin 256), wu (ix2 k i) = u (ix2 k ⟨o + i.val, by omega⟩))
    (hd : ∀ (i : Fin 256) (k : Fin 1024), wd (ix2 i k) = d (ix2 ⟨o + i.val, by omega⟩ k))
    (r : Fin 512) (c : Fin 1024) :
    step hb acc wg wu wd (ix2 r c) = acc (ix2 r c)
      + part (fun f => hid (fun k => hb (ix2 r k)) (fun k f => g (ix2 k f)) (fun k f => u (ix2 k f)) f * d (ix2 f c)) o ho := by
  pointwise [step]
  simp only [hg, hu, hd]
  rfl

/-- The block's gated row: the four heads normalised, gated. -/
def y {F : FTy → Type} [FloatOps F] (v0 v15 v30 v45 : Vec F S512x256 .f32) (v1 v16 v31 v46 : Vec F S1x256 .f32)
    (v61 : Vec F S512x1024 .f32) : FVec F S512x1024 .f32 :=
  let n (x : Vec F S512x256 .f32) (g : Vec F S1x256 .f32) : FVec F S512x256 .f32 :=
    mulf (mulf x (broadcastTo S512x256 (rsqrt (addf (divf (shapeCast S512x1
        (multiReduction .add [1] S512 (mulf x x) 0x00000000#32 reduces_S512x256_S512 (.inl rfl) rfl) shapeCasts_S512_S512x1)
        (broadcast S512x1 (Scalar.ofBits .f32 0x43800000#32))) (broadcast S512x1 (Scalar.ofBits .f32 0x358637BD#32))))
        broadcasts_S512x1_S512x256))
      (broadcastTo S512x256 (shapeCast S1x256 g shapeCasts_S1x256_S1x256) broadcasts_S1x256_S512x256)
  mulf (concatenate S512x1024 1 [⟨S512x256, n v0 v1⟩, ⟨S512x256, n v15 v16⟩, ⟨S512x256, n v30 v31⟩, ⟨S512x256, n v45 v46⟩]
    concatenates_S512x256_S512x256_S512x256_S512x256_S512x1024_d1) (logistic v61)

/-- The gated row read at an entry of a head. -/
theorem y_apply (x0 x1 : Vec Ideal S512x1024 .f32) (x3 : Vec Ideal S1x1024 .f32) (r : Fin 512) (h : Fin 4) (e : Fin 256) :
    y (View.ld x0 r0_0) (View.ld x0 r0_2) (View.ld x0 r0_4) (View.ld x0 r0_6) (View.ld x3 r0_1) (View.ld x3 r0_3)
      (View.ld x3 r0_5) (View.ld x3 r0_7) (View.ld x1 r0_8) (ix2 r (at4 h e))
      = gated (fun k => x0 (ix2 r k)) (fun k => x1 (ix2 r k)) (fun k => x3 (ix2 0 k)) h e := by
  obtain ⟨h, hh⟩ := h
  interval_cases h
  · have a0 (e : Fin 256) : at4 0 e = ⟨e.val, by omega⟩ := Fin.ext (by simp only [at4]; omega)
    rw [show (⟨0, hh⟩ : Fin 4) = 0 from rfl, a0]
    pointwise [y]
    simp only [gated, rms, a0]
  · pointwise [y, at4]
    rfl
  · pointwise [y, at4]
    rw [dif_neg (by omega), dif_neg (by omega), dif_pos (by omega)]
    simp only [show 512 + (512 + e.val - 256 - 256) = 512 + e.val by omega]
    rfl
  · pointwise [y, at4]
    rw [dif_neg (by omega), dif_neg (by omega), dif_neg (by omega)]
    simp only [show 768 + (768 + e.val - 256 - 256 - 256) = 768 + e.val by omega]
    rfl

/-- The block's row before the feed-forward part. -/
def mixed (x0 x1 x2 : Vec Ideal S512x1024 .f32) (x3 : Vec Ideal S1x1024 .f32) (x4 : Vec Ideal S1024x1024 .bf16)
    (r : Fin 512) : Fin 1024 → EReal :=
  gatedMix (fun k => x0 (ix2 r k)) (fun k => x1 (ix2 r k)) (fun k => x3 (ix2 0 k)) (fun k => x2 (ix2 r k))
    (fun k c => x4 (ix2 k c))

section
variable (x0 x1 x2 : Vec Ideal S512x1024 .f32) (x3 : Vec Ideal S1x1024 .f32) (x4 : Vec Ideal S1024x1024 .bf16)
  (x5 : Vec Ideal S1x1024 .f32) (x6 x7 : Vec Ideal S1024x2816 .bf16) (x8 : Vec Ideal S2816x1024 .bf16)
  (r : Fin 512) (c : Fin 1024)

theorem pay24_apply : k0_pay24 x0 x1 x2 x3 x4 x5 x6 x7 x8 (ix2 r c) = mixed x0 x1 x2 x3 x4 r c := by
  show addf (View.ld x2 r0_8) (matmul dot_S512x1024_S1024x1024_S512x1024_1_0_0_1_n_n none
    (truncf .bf16 (y (View.ld x0 r0_0) (View.ld x0 r0_2) (View.ld x0 r0_4) (View.ld x0 r0_6) (View.ld x3 r0_1)
      (View.ld x3 r0_3) (View.ld x3 r0_5) (View.ld x3 r0_7) (View.ld x1 r0_8)) bitsLt_bf16_f32)
    (shapeCast S1024x1024 (View.ld x4 r0_9) shapeCasts_S1024x1024_S1024x1024) (constant S512x1024 .f32 0x00000000#32)) (ix2 r c) = _
  pointwise
  refine congrArg (x2 (ix2 r c) + ·) (Finset.sum_congr rfl fun k _ => ?_)
  refine congrArg (· * x4 (ix2 k c)) ?_
  rw [← y_apply, at4_hd_el]

theorem pay27_apply : k0_pay27 x0 x1 x2 x3 x4 x5 x6 x7 x8 (ix2 r c)
    = normed (mixed x0 x1 x2 x3 x4 r) (fun k => x5 (ix2 0 k)) c := by
  unfold k0_pay27 k0_pay26 k0_pay25
  show truncf .bf16 (mulf (mulf (k0_pay24 x0 x1 x2 x3 x4 x5 x6 x7 x8) (broadcastTo S512x1024 (rsqrt (addf (divf (shapeCast S512x1
      (multiReduction .add [1] S512 (mulf (k0_pay24 x0 x1 x2 x3 x4 x5 x6 x7 x8) (k0_pay24 x0 x1 x2 x3 x4 x5 x6 x7 x8)) 0x00000000#32
        reduces_S512x1024_S512 (.inl rfl) rfl) shapeCasts_S512_S512x1)
      (broadcast S512x1 (Scalar.ofBits .f32 0x44800000#32))) (broadcast S512x1 (Scalar.ofBits .f32 0x358637BD#32))))
      broadcasts_S512x1_S512x1024))
    (broadcastTo S512x1024 (shapeCast S1x1024 (View.ld x5 r0_10) shapeCasts_S1x1024_S1x1024) broadcasts_S1x1024_S512x1024))
    bitsLt_bf16_f32 (ix2 r c) = _
  pointwise
  simp only [pay24_apply]
  rfl

/-- THE BLOCK'S VALUE at row `r`, column `c`. -/
theorem out_apply : out0_9 x0 x1 x2 x3 x4 x5 x6 x7 x8 (ix2 r c) =
    ffn (mixed x0 x1 x2 x3 x4 r) (fun k => x5 (ix2 0 k)) (fun k f => x6 (ix2 k f)) (fun k f => x7 (ix2 k f))
      (fun f k => x8 (ix2 f k)) c := by
  unfold out0_9
  frame_out
  show step (k0_pay27 x0 x1 x2 x3 x4 x5 x6 x7 x8) (step (k0_pay27 x0 x1 x2 x3 x4 x5 x6 x7 x8) (step (k0_pay27 x0 x1 x2 x3 x4 x5 x6 x7 x8) (step (k0_pay27 x0 x1 x2 x3 x4 x5 x6 x7 x8) (step (k0_pay27 x0 x1 x2 x3 x4 x5 x6 x7 x8) (step (k0_pay27 x0 x1 x2 x3 x4 x5 x6 x7 x8) (step (k0_pay27 x0 x1 x2 x3 x4 x5 x6 x7 x8) (step (k0_pay27 x0 x1 x2 x3 x4 x5 x6 x7 x8) (step (k0_pay27 x0 x1 x2 x3 x4 x5 x6 x7 x8) (step (k0_pay27 x0 x1 x2 x3 x4 x5 x6 x7 x8) (step (k0_pay27 x0 x1 x2 x3 x4 x5 x6 x7 x8) (k0_pay24 x0 x1 x2 x3 x4 x5 x6 x7 x8)
    (View.ld x6 r0_11) (View.ld x7 r0_11) (View.ld x8 r0_12))
    (View.ld x6 r0_13) (View.ld x7 r0_13) (View.ld x8 r0_14))
    (View.ld x6 r0_15) (View.ld x7 r0_15) (View.ld x8 r0_16))
    (View.ld x6 r0_17) (View.ld x7 r0_17) (View.ld x8 r0_18))
    (View.ld x6 r0_19) (View.ld x7 r0_19) (View.ld x8 r0_20))
    (View.ld x6 r0_21) (View.ld x7 r0_21) (View.ld x8 r0_22))
    (View.ld x6 r0_23) (View.ld x7 r0_23) (View.ld x8 r0_24))
    (View.ld x6 r0_25) (View.ld x7 r0_25) (View.ld x8 r0_26))
    (View.ld x6 r0_27) (View.ld x7 r0_27) (View.ld x8 r0_28))
    (View.ld x6 r0_29) (View.ld x7 r0_29) (View.ld x8 r0_30))
    (View.ld x6 r0_31) (View.ld x7 r0_31) (View.ld x8 r0_32) (ix2 r c) = _
  rw [ffn, add_sum_chunks]
  rw [step_apply _ _ _ _ _ x6 x7 x8 2560 (by omega),
    step_apply _ _ _ _ _ x6 x7 x8 2304 (by omega),
    step_apply _ _ _ _ _ x6 x7 x8 2048 (by omega),
    step_apply _ _ _ _ _ x6 x7 x8 1792 (by omega),
    step_apply _ _ _ _ _ x6 x7 x8 1536 (by omega),
    step_apply _ _ _ _ _ x6 x7 x8 1280 (by omega),
    step_apply _ _ _ _ _ x6 x7 x8 1024 (by omega),
    step_apply _ _ _ _ _ x6 x7 x8 768 (by omega),
    step_apply _ _ _ _ _ x6 x7 x8 512 (by omega),
    step_apply _ _ _ _ _ x6 x7 x8 256 (by omega),
    step_apply _ _ _ _ _ x6 x7 x8 0 (by omega), pay24_apply]
  · simp only [pay27_apply]
  all_goals (intro k i; pointwise)

end

end Cert.Kernel3Ideal.Body

end
-- ==== Proof.MlstmFfnRef.lean ====
/- The plain reference of the recurrent layer's output call, read at a row and a column. -/
module

public import proofs.«01_k».proof.Proof.Gen.Reference3Ideal.Read
public import proofs.«01_k».proof.Proof.FfnRow
public import Idealize.ShloMosaic.Lib.Pointwise
public import Idealize.ShloMosaic.Lib.Tactic.CleanTypes

@[expose] public section

set_option maxRecDepth 16384

noncomputable section

namespace Cert.Reference3Ideal.Row

open Cert.Reference3Ideal Cert.Reference3Ideal.Gen Cert.Reference3Ideal.Read Cert.FfnRow Idealize.ShloMosaic
  Idealize.ShloMosaic.TcCoe Idealize.SL.Sem

variable (x0 x1 x2 : (⟨S16384x1024, .f32⟩ : BufTy).Contents (Elt Ideal))
  (x3 : (⟨S1x1024, .f32⟩ : BufTy).Contents (Elt Ideal)) (x4 : (⟨S1x1024x1024, .f32⟩ : BufTy).Contents (Elt Ideal))
  (x5 : (⟨S2x1024, .f32⟩ : BufTy).Contents (Elt Ideal)) (x6 : (⟨S2x1024x5632, .f32⟩ : BufTy).Contents (Elt Ideal))
  (x7 : (⟨S2x2816x1024, .f32⟩ : BufTy).Contents (Elt Ideal))

theorem v0_apply (r : Fin 16384) (h : Fin 4) (e : Fin 256) :
    val_main_v0 x0 (ix3 r h e) = x0 (ix2 r (at4 h e)) := by
  unfold val_main_v0
  pointwise
  exact congrArg (fun k => x0 (ix2 r k)) (Fin.ext (by simp only [at4]; omega))

theorem v12_apply (h : Fin 4) (e : Fin 256) : val_main_v12 x3 (ix2 h e) = x3 (ix2 0 (at4 h e)) := by
  unfold val_main_v12 val_main_v11
  pointwise
  exact congrArg (fun k => x3 (ix2 0 k)) (Fin.ext (by simp only [at4]; omega))

/-- A head's row normalised and weighted. -/
theorem v15_apply (r : Fin 16384) (h : Fin 4) (e : Fin 256) : val_main_v15 x0 x3 (ix3 r h e)
    = x0 (ix2 r (at4 h e)) * rms 1132462080#32 (fun j => x0 (ix2 r (at4 h j))) * x3 (ix2 0 (at4 h e)) := by
  unfold val_main_v15 val_main_v14 val_main_v13 val_main_v10 val_main_v9 val_main_v8 val_main_v7 val_main_v6 val_main_v5 val_main_v4 val_main_v3 val_main_v2 val_main_v1 val_main_cst val_main_cst_0 val_main_cst_1
  clean_types
  pointwise
  simp only [v0_apply, v12_apply]
  rfl

theorem v16_apply (r : Fin 16384) (k : Fin 1024) : val_main_v16 x0 x3 (ix2 r k) = val_main_v15 x0 x3 (ix3 r (hd k) (el k)) := by
  unfold val_main_v16
  pointwise
  rfl

theorem v23_apply (r : Fin 16384) (k : Fin 1024) : val_main_v23 x0 x1 x3 (ix2 r k)
    = gated (fun k => x0 (ix2 r k)) (fun k => x1 (ix2 r k)) (fun k => x3 (ix2 0 k)) (hd k) (el k) := by
  unfold val_main_v23 val_main_v22 val_main_v21 val_main_v20 val_main_v19 val_main_v18 val_main_v17 val_main_cst_2 val_main_cst_3
  clean_types
  pointwise
  simp only [v16_apply, v15_apply]
  rw [gated, at4_hd_el]
  rfl

/-- The residual row plus the projection of the gated row. -/
def mixed (r : Fin 16384) : Fin 1024 → EReal :=
  gatedMix (fun k => x0 (ix2 r k)) (fun k => x1 (ix2 r k)) (fun k => x3 (ix2 0 k)) (fun k => x2 (ix2 r k))
    (fun k c => x4 (ix3 0 k c))

theorem v26_apply (r : Fin 16384) (c : Fin 1024) : val_main_v26 x0 x1 x2 x3 x4 (ix2 r c) = mixed x0 x1 x2 x3 x4 r c := by
  unfold val_main_v26 val_main_v25 val_main_v24
  clean_types
  pointwise
  simp only [v23_apply]
  rfl

theorem v45_apply (r : Fin 16384) (c : Fin 1024) :
    val_main_v45 x0 x1 x2 x3 x4 x5 (ix2 r c) = normed (mixed x0 x1 x2 x3 x4 r) (fun k => x5 (ix2 0 k)) c := by
  unfold val_main_v45 val_main_v44 val_main_v43 val_main_v42 val_main_v41 val_main_v40 val_main_v39 val_main_v38 val_main_v37 val_main_v36 val_main_v35 val_main_v34 val_main_v33 val_main_v28 val_main_v27 val_main_cst_4 val_main_cst_5 val_main_cst_6
  clean_types
  pointwise
  simp only [v26_apply]
  rfl

/-- The two halves of the gate and up projections' table. -/
def wg (k : Fin 1024) (f : Fin 2816) : EReal := x6 (ix3 0 k ⟨f.val, by omega⟩)
def wu (k : Fin 1024) (f : Fin 2816) : EReal := x6 (ix3 0 k ⟨2816 + f.val, by omega⟩)

theorem v50_apply (r : Fin 16384) (f : Fin 2816) :
    val_main_v50 x0 x1 x2 x3 x4 x5 x6 (ix2 r f)
      = hid (normed (mixed x0 x1 x2 x3 x4 r) (fun k => x5 (ix2 0 k))) (wg x6) (wu x6) f := by
  unfold val_main_v50 val_main_v49 val_main_v48 val_main_call0_v5 val_main_call0_v4 val_main_call0_v3 val_main_call0_v2
    val_main_call0_v1 val_main_call0_v0 val_main_call0_cst val_main_call0_cst_0 val_main_v47 val_main_v46
    val_main_v30 val_main_v29
  clean_types
  pointwise
  simp only [v45_apply]
  rfl

theorem v52_apply (r : Fin 16384) (c : Fin 1024) :
    val_main_v52 x0 x1 x2 x3 x4 x5 x6 x7 (ix2 r c)
      = ffn (mixed x0 x1 x2 x3 x4 r) (fun k => x5 (ix2 0 k)) (wg x6) (wu x6) (fun f k => x7 (ix3 0 f k)) c := by
  unfold val_main_v52 val_main_v51 val_main_v32 val_main_v31
  clean_types
  pointwise
  simp only [v26_apply, v50_apply]
  rfl

end Cert.Reference3Ideal.Row

end
-- ==== Proof.MlstmFfn.lean ====
/- The recurrent layer's output call: its whole result array is the plain reference's. -/
module

public import proofs.«01_k».proof.Proof.MlstmFfnBody
public import proofs.«01_k».proof.Proof.Gen.Kernel3Ideal.Value
public import proofs.«01_k».proof.Proof.MlstmFfnRef
public import Idealize.ShloMosaic.Lib.StableHlo.ReadAt

@[expose] public section

set_option maxRecDepth 16384

noncomputable section

namespace Cert.Kernel3Ideal.Final

open Cert.Kernel3Ideal Cert.Kernel3Ideal.Gen Cert.FfnRow Idealize.ShloMosaic Idealize.ShloMosaic.TcCoe
  Idealize.SL.Sem
open Idealize.ShloMosaic.Pipeline (Dat)

variable (m : (ℓ : Loc nD τ sig) → Buf (Elt Ideal) ℓ) (c : Dev nD)

/-- The host's preparations, read at an index: slices of the arguments, the format change being the identity. -/
theorem w_norm_h (k : Fin 1024) :
    V m c main_v1 (ix2 0 k) = m (c, main_arg3) (ix2 0 k) := by
  unfold V
  after_reads_at

theorem w_out (k e : Fin 1024) :
    V m c main_v3 (ix2 k e) = m (c, main_arg4) (ix3 0 k e) := by
  unfold V
  after_reads_at

theorem w_norm (k : Fin 1024) :
    V m c main_v6 (ix2 0 k) = m (c, main_arg5) (ix2 0 k) := by
  unfold V
  after_reads_at

theorem w_gate (k : Fin 1024) (f : Fin 2816) :
    V m c main_v10 (ix2 k f) = m (c, main_arg6) (ix3 0 k ⟨f.val, by omega⟩) := by
  unfold V
  after_reads_at

theorem w_up (k : Fin 1024) (f : Fin 2816) :
    V m c main_v14 (ix2 k f) = m (c, main_arg6) (ix3 0 k ⟨2816 + f.val, by omega⟩) := by
  unfold V
  after_reads_at

theorem w_down (f : Fin 2816) (k : Fin 1024) :
    V m c main_v17 (ix2 f k) = m (c, main_arg7) (ix3 0 f k) := by
  unfold V
  after_reads_at

/-- Row `r` of block `t`. -/
abbrev row (t : Fin cfg0.N) (r : Fin 512) : Fin 16384 :=
  ⟨t.val * 512 + r.val, by have := t.isLt; have : cfg0.N = 32 := rfl; omega⟩

/-- Where the windows stand at a grid point: row block `t`, or the whole table. -/
theorem idx (t : Fin cfg0.N) : win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0] := by
  revert t
  decide +kernel

/-- The blocks each grid point reads. -/
theorem blk0 (t : Fin cfg0.N) (r : Fin 512) (k : Fin 1024) :
    iblk m c 0 t (ix2 r k) = m (c, main_arg0) (ix2 (row t r) k) := by
  blk_ext [iblk, V, idx t]

theorem blk1 (t : Fin cfg0.N) (r : Fin 512) (k : Fin 1024) :
    iblk m c 1 t (ix2 r k) = m (c, main_arg1) (ix2 (row t r) k) := by
  blk_ext [iblk, V, idx t]

theorem blk2 (t : Fin cfg0.N) (r : Fin 512) (k : Fin 1024) :
    iblk m c 2 t (ix2 r k) = m (c, main_arg2) (ix2 (row t r) k) := by
  blk_ext [iblk, V, idx t]

theorem blk3 (t : Fin cfg0.N) (k : Fin 1024) :
    iblk m c 3 t (ix2 0 k) = m (c, main_arg3) (ix2 0 k) := by
  refine Eq.trans ?_ (w_norm_h m c _)
  blk_ext [iblk, idx t]

theorem blk4 (t : Fin cfg0.N) (k e : Fin 1024) :
    iblk m c 4 t (ix2 k e) = m (c, main_arg4) (ix3 0 k e) := by
  refine Eq.trans ?_ (w_out m c _ _)
  blk_ext [iblk, idx t]

theorem blk5 (t : Fin cfg0.N) (k : Fin 1024) :
    iblk m c 5 t (ix2 0 k) = m (c, main_arg5) (ix2 0 k) := by
  refine Eq.trans ?_ (w_norm m c _)
  blk_ext [iblk, idx t]

theorem blk6 (t : Fin cfg0.N) (k : Fin 1024) (f : Fin 2816) :
    iblk m c 6 t (ix2 k f) = m (c, main_arg6) (ix3 0 k ⟨f.val, by omega⟩) := by
  refine Eq.trans ?_ (w_gate m c _ _)
  blk_ext [iblk, idx t]

theorem blk7 (t : Fin cfg0.N) (k : Fin 1024) (f : Fin 2816) :
    iblk m c 7 t (ix2 k f) = m (c, main_arg6) (ix3 0 k ⟨2816 + f.val, by omega⟩) := by
  refine Eq.trans ?_ (w_up m c _ _)
  blk_ext [iblk, idx t]

theorem blk8 (t : Fin cfg0.N) (f : Fin 2816) (k : Fin 1024) :
    iblk m c 8 t (ix2 f k) = m (c, main_arg7) (ix3 0 f k) := by
  refine Eq.trans ?_ (w_down m c _ _)
  blk_ext [iblk, idx t]

/-- What the call returns is the reference's array of the same eight arguments. -/
theorem final : (dats m 0 c).arrAt 9 cfg0.N = Cert.Reference3Ideal.Read.val_main_v52 (F := Ideal)
    (m (c, main_arg0)) (m (c, main_arg1)) (m (c, main_arg2)) (m (c, main_arg3)) (m (c, main_arg4)) (m (c, main_arg5)) (m (c, main_arg6)) (m (c, main_arg7)) := by
  refine (dats m 0 c).arrAt_eq_of_covers 9 _ (by decide +kernel) fun t hf y => ?_
  rw [after0_9]
  idx_vars y
  blk_simp
  have e : ((cfg0.win 9).blk t).view.emb (ix2 y0 y1) = ix2 (row t y0) y1 := by
    blk_ext [idx t]
  erw [e]
  rw [Cert.Reference3Ideal.Row.v52_apply, Body.out_apply]
  have hm : Body.mixed (iblk m c 0 t) (iblk m c 1 t) (iblk m c 2 t) (iblk m c 3 t) (iblk m c 4 t) y0
      = Cert.Reference3Ideal.Row.mixed (m (c, main_arg0)) (m (c, main_arg1)) (m (c, main_arg2)) (m (c, main_arg3)) (m (c, main_arg4))
          (row t y0) := by
    simp only [Body.mixed, Cert.Reference3Ideal.Row.mixed, blk0, blk1, blk2, blk3, blk4]
  rw [hm]
  simp only [blk5, blk6, blk7, blk8]
  rfl

/-- A run of the call ends with the reference's array in the result and the arguments as they were. -/
theorem run (ρ : Dev nD → PrngReg) :
    θ_run defs (onTc (τ := τ) (main (F := Ideal))) ⟨m, fun _ => 0, ρ⟩ fun r => ∀ c : Dev nD,
      r.2.mem ((c : Thread nD τ).loc main_v18) = Cert.Reference3Ideal.Read.val_main_v52 (F := Ideal)
        (m (c, main_arg0)) (m (c, main_arg1)) (m (c, main_arg2)) (m (c, main_arg3)) (m (c, main_arg4)) (m (c, main_arg5)) (m (c, main_arg6)) (m (c, main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := by
  refine (θ_run defs _ _).mono (fun r h c => ?_) (Cert.Kernel3Ideal.Value.run_blocks m ρ)
  rw [← final]
  exact h c

end Cert.Kernel3Ideal.Final

end
-- ==== Proof.ProjBody.lean ====
/- What one grid point of the recurrent layer's input projection leaves in its five blocks. -/
module

public import proofs.«01_k».proof.Proof.Gen.Kernel4Ideal.Value
public import proofs.«01_k».proof.Proof.FfnRow
public import Idealize.ShloMosaic.Lib.Pointwise
public import Idealize.ShloMosaic.Lib.Pipeline.ValueKit

@[expose] public section

set_option maxRecDepth 16384

noncomputable section

namespace Cert.Kernel4Ideal.Body

open Cert.Kernel4Ideal Cert.Kernel4Ideal.Gen Cert.FfnRow Idealize.ShloMosaic Idealize.ShloMosaic.TcCoe Idealize.SL.Sem

variable (x0 : Vec Ideal S512x1024 .f32) (x1 : Vec Ideal S1x1024 .f32) (x2 x3 : Vec Ideal S1024x512 .bf16)
  (x4 x5 : Vec Ideal S1024x1024 .bf16) (x6 : Vec Ideal S1024x128 .bf16) (r : Fin 512)

theorem pay2_apply (v0 : Vec Ideal S512x1024 .f32) (v1 : Vec Ideal S1x1024 .f32) (c : Fin 1024) :
    k0_pay2 v0 v1 (ix2 r c) = normed (fun k => v0 (ix2 r k)) (fun k => v1 (ix2 0 k)) c := by
  pointwise [k0_pay2]
  rfl

theorem out7_apply (c : Fin 512) : out0_7 x0 x1 x2 x3 x4 x5 x6 (ix2 r c)
    = proj (fun k => x0 (ix2 r k)) (fun k => x1 (ix2 0 k)) (fun k c => x2 (ix2 k c)) c := by
  unfold out0_7
  frame_out
  pointwise [k0_pay3]
  simp only [pay2_apply]
  rfl

theorem out8_apply (c : Fin 512) : out0_8 x0 x1 x2 x3 x4 x5 x6 (ix2 r c)
    = proj (fun k => x0 (ix2 r k)) (fun k => x1 (ix2 0 k)) (fun k c => x3 (ix2 k c)) c := by
  unfold out0_8
  frame_out
  pointwise [k0_pay4]
  simp only [pay2_apply]
  rfl

theorem out9_apply (c : Fin 1024) : out0_9 x0 x1 x2 x3 x4 x5 x6 (ix2 r c)
    = proj (fun k => x0 (ix2 r k)) (fun k => x1 (ix2 0 k)) (fun k c => x4 (ix2 k c)) c := by
  unfold out0_9
  frame_out
  pointwise [k0_pay5]
  simp only [pay2_apply]
  rfl

theorem out10_apply (c : Fin 1024) : out0_10 x0 x1 x2 x3 x4 x5 x6 (ix2 r c)
    = proj (fun k => x0 (ix2 r k)) (fun k => x1 (ix2 0 k)) (fun k c => x5 (ix2 k c)) c := by
  unfold out0_10
  frame_out
  pointwise [k0_pay6]
  simp only [pay2_apply]
  rfl

theorem out11_apply (c : Fin 128) : out0_11 x0 x1 x2 x3 x4 x5 x6 (ix2 r c)
    = proj (fun k => x0 (ix2 r k)) (fun k => x1 (ix2 0 k)) (fun k c => x6 (ix2 k c)) c := by
  unfold out0_11
  frame_out
  pointwise [k0_pay1]
  simp only [pay2_apply]
  rfl

end Cert.Kernel4Ideal.Body

end
-- ==== Proof.ProjRef.lean ====
/- The plain reference of the recurrent layer's input projection, read at a row and a column. -/
module

public import proofs.«01_k».proof.Proof.Gen.Reference4Ideal.Read
public import proofs.«01_k».proof.Proof.FfnRow
public import Idealize.ShloMosaic.Lib.Pointwise
public import Idealize.ShloMosaic.Lib.Tactic.CleanTypes

@[expose] public section

set_option maxRecDepth 16384

noncomputable section

namespace Cert.Reference4Ideal.Row

open Cert.Reference4Ideal Cert.Reference4Ideal.Gen Cert.Reference4Ideal.Read Cert.FfnRow Idealize.ShloMosaic
  Idealize.ShloMosaic.TcCoe Idealize.SL.Sem

variable (x0 : (⟨S16384x1024, .f32⟩ : BufTy).Contents (Elt Ideal)) (x1 : (⟨S2x1024, .f32⟩ : BufTy).Contents (Elt Ideal))
  (x2 : (⟨S1x1024x3080, .f32⟩ : BufTy).Contents (Elt Ideal))

theorem v14_apply (r : Fin 16384) (c : Fin 1024) :
    val_main_v14 x0 x1 (ix2 r c) = normed (fun k => x0 (ix2 r k)) (fun k => x1 (ix2 0 k)) c := by
  unfold val_main_v14 val_main_v13 val_main_v12 val_main_v11 val_main_v10 val_main_v9 val_main_v8 val_main_v7 val_main_v6
    val_main_v5 val_main_v4 val_main_v3 val_main_v2 val_main_v1 val_main_v0 val_main_cst val_main_cst_0 val_main_cst_1
  clean_types
  pointwise
  rfl

theorem v16_apply (r : Fin 16384) (c : Fin 3080) : val_main_v16 x0 x1 x2 (ix2 r c)
    = proj (fun k => x0 (ix2 r k)) (fun k => x1 (ix2 0 k)) (fun k c => x2 (ix3 0 k c)) c := by
  unfold val_main_v16 val_main_v15
  clean_types
  pointwise
  simp only [v14_apply]
  rfl

/-- `n` columns of the table from column `o` on. -/
def cols (o n : ℕ) (h : o + n ≤ 3080) (k : Fin 1024) (c : Fin n) : EReal := x2 (ix3 0 k ⟨o + c.val, by omega⟩)

theorem v17_apply (r : Fin 16384) (c : Fin 512) : val_main_v17 x0 x1 x2 (ix2 r c)
    = proj (fun k => x0 (ix2 r k)) (fun k => x1 (ix2 0 k)) (cols x2 0 512 (by omega)) c := by
  unfold val_main_v17
  pointwise
  rw [v16_apply]
  simp only [proj, cols, Nat.zero_add]

theorem v18_apply (r : Fin 16384) (c : Fin 512) : val_main_v18 x0 x1 x2 (ix2 r c)
    = proj (fun k => x0 (ix2 r k)) (fun k => x1 (ix2 0 k)) (cols x2 512 512 (by omega)) c := by
  unfold val_main_v18
  pointwise
  rw [v16_apply]
  rfl

theorem v19_apply (r : Fin 16384) (c : Fin 1024) : val_main_v19 x0 x1 x2 (ix2 r c)
    = proj (fun k => x0 (ix2 r k)) (fun k => x1 (ix2 0 k)) (cols x2 1024 1024 (by omega)) c := by
  unfold val_main_v19
  pointwise
  rw [v16_apply]
  rfl

theorem v20_apply (r : Fin 16384) (c : Fin 1024) : val_main_v20 x0 x1 x2 (ix2 r c)
    = proj (fun k => x0 (ix2 r k)) (fun k => x1 (ix2 0 k)) (cols x2 2048 1024 (by omega)) c := by
  unfold val_main_v20
  pointwise
  rw [v16_apply]
  rfl

/-- The gates: eight columns, then zeros. -/
theorem v22_apply (r : Fin 16384) (c : Fin 128) : val_main_v22 x0 x1 x2 (ix2 r c)
    = if h : c.val < 8 then
        proj (fun k => x0 (ix2 r k)) (fun k => x1 (ix2 0 k)) (cols x2 3072 8 (by omega)) ⟨c.val, h⟩ else 0 := by
  unfold val_main_v22 val_main_v21 val_main_call0_v0 val_main_c
  clean_types
  pointwise
  simp only [v16_apply]
  rw [show (FloatOps.sitofp FTy.f32 0#32 : Ideal .f32) = 0 from by simp [FloatOps.sitofp]]
  rfl

end Cert.Reference4Ideal.Row

end
-- ==== Proof.Proj.lean ====
/- The recurrent layer's input projection: its five result arrays are the plain reference's. -/
module

public import proofs.«01_k».proof.Proof.ProjBody
public import proofs.«01_k».proof.Proof.ProjRef
public import Idealize.ShloMosaic.Lib.StableHlo.ReadAt

@[expose] public section

set_option maxRecDepth 16384

noncomputable section

namespace Cert.Kernel4Ideal.Final

open Cert.Kernel4Ideal Cert.Kernel4Ideal.Gen Cert.FfnRow Idealize.ShloMosaic Idealize.ShloMosaic.TcCoe
  Idealize.SL.Sem
open Cert.Reference4Ideal.Row (cols)

variable (m : (ℓ : Loc nD τ sig) → Buf (Elt Ideal) ℓ) (c : Dev nD)

/-- The host's preparations, read at an index: slices of the arguments, the format change being the identity. -/
theorem w_norm (k : Fin 1024) :
    V m c main_v14 (ix2 0 k) = m (c, main_arg1) (ix2 0 k) := by
  unfold V
  after_reads_at

theorem w0 (k : Fin 1024) (f : Fin 512) :
    V m c main_v4 (ix2 k f) = cols (m (c, main_arg2)) 0 512 (by omega) k f := by
  unfold V
  after_reads_at
  simp only [cols, Nat.zero_add]

theorem w1 (k : Fin 1024) (f : Fin 512) :
    V m c main_v6 (ix2 k f) = cols (m (c, main_arg2)) 512 512 (by omega) k f := by
  unfold V
  after_reads_at
  rfl

theorem w2 (k : Fin 1024) (f : Fin 1024) :
    V m c main_v8 (ix2 k f) = cols (m (c, main_arg2)) 1024 1024 (by omega) k f := by
  unfold V
  after_reads_at
  rfl

theorem w3 (k : Fin 1024) (f : Fin 1024) :
    V m c main_v10 (ix2 k f) = cols (m (c, main_arg2)) 2048 1024 (by omega) k f := by
  unfold V
  after_reads_at
  rfl

theorem w4 (k : Fin 1024) (f : Fin 128) :
    V m c main_v11 (ix2 k f) = if h : f.val < 8 then cols (m (c, main_arg2)) 3072 8 (by omega) k ⟨f.val, h⟩ else 0 := by
  unfold V
  after_reads_at
  rw [show (FloatOps.sitofp FTy.f32 0#32 : Ideal .f32) = 0 from by simp [FloatOps.sitofp]]
  rfl

/-- Row `r` of block `t`. -/
abbrev row (t : Fin cfg0.N) (r : Fin 512) : Fin 16384 :=
  ⟨t.val * 512 + r.val, by have := t.isLt; have : cfg0.N = 32 := rfl; omega⟩

/-- Where the windows stand at a grid point: row block `t`, or the whole table. -/
theorem idx (t : Fin cfg0.N) : win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0]
    ∧ win0_10.index t = ![t.val, 0] ∧ win0_11.index t = ![t.val, 0] := by
  revert t
  decide +kernel

/-- The blocks each grid point reads. -/
theorem blk0 (t : Fin cfg0.N) (r : Fin 512) (k : Fin 1024) :
    iblk m c 0 t (ix2 r k) = m (c, main_arg0) (ix2 (row t r) k) := by
  blk_ext [iblk, V, idx t]

theorem blk1 (t : Fin cfg0.N) (k : Fin 1024) :
    iblk m c 1 t (ix2 0 k) = m (c, main_arg1) (ix2 0 k) := by
  refine Eq.trans ?_ (w_norm m c _)
  blk_ext [iblk, idx t]

theorem blk2 (t : Fin cfg0.N) (k : Fin 1024) (f : Fin 512) :
    iblk m c 2 t (ix2 k f) = cols (m (c, main_arg2)) 0 512 (by omega) k f := by
  refine Eq.trans ?_ (w0 m c _ _)
  blk_ext [iblk, idx t]

theorem blk3 (t : Fin cfg0.N) (k : Fin 1024) (f : Fin 512) :
    iblk m c 3 t (ix2 k f) = cols (m (c, main_arg2)) 512 512 (by omega) k f := by
  refine Eq.trans ?_ (w1 m c _ _)
  blk_ext [iblk, idx t]

theorem blk4 (t : Fin cfg0.N) (k : Fin 1024) (f : Fin 1024) :
    iblk m c 4 t (ix2 k f) = cols (m (c, main_arg2)) 1024 1024 (by omega) k f := by
  refine Eq.trans ?_ (w2 m c _ _)
  blk_ext [iblk, idx t]

theorem blk5 (t : Fin cfg0.N) (k : Fin 1024) (f : Fin 1024) :
    iblk m c 5 t (ix2 k f) = cols (m (c, main_arg2)) 2048 1024 (by omega) k f := by
  refine Eq.trans ?_ (w3 m c _ _)
  blk_ext [iblk, idx t]

theorem blk6 (t : Fin cfg0.N) (k : Fin 1024) (f : Fin 128) :
    iblk m c 6 t (ix2 k f) = if h : f.val < 8 then cols (m (c, main_arg2)) 3072 8 (by omega) k ⟨f.val, h⟩ else 0 := by
  refine Eq.trans ?_ (w4 m c _ _)
  blk_ext [iblk, idx t]

theorem final7 : (dats m 0 c).arrAt 7 cfg0.N = Cert.Reference4Ideal.Read.val_main_v17 (F := Ideal) (m (c, main_arg0)) (m (c, main_arg1)) (m (c, main_arg2)) := by
  refine (dats m 0 c).arrAt_eq_of_covers 7 _ (by decide +kernel) fun t hf y => ?_
  rw [after0_7]
  idx_vars y
  blk_simp
  have e : ((cfg0.win 7).blk t).view.emb (ix2 y0 y1) = ix2 (row t y0) y1 := by
    blk_ext [idx t]
  erw [e]
  rw [Cert.Reference4Ideal.Row.v17_apply, Body.out7_apply]
  simp only [blk0, blk1, blk2]

theorem final8 : (dats m 0 c).arrAt 8 cfg0.N = Cert.Reference4Ideal.Read.val_main_v18 (F := Ideal) (m (c, main_arg0)) (m (c, main_arg1)) (m (c, main_arg2)) := by
  refine (dats m 0 c).arrAt_eq_of_covers 8 _ (by decide +kernel) fun t hf y => ?_
  rw [after0_8]
  idx_vars y
  blk_simp
  have e : ((cfg0.win 8).blk t).view.emb (ix2 y0 y1) = ix2 (row t y0) y1 := by
    blk_ext [idx t]
  erw [e]
  rw [Cert.Reference4Ideal.Row.v18_apply, Body.out8_apply]
  simp only [blk0, blk1, blk3]

theorem final9 : (dats m 0 c).arrAt 9 cfg0.N = Cert.Reference4Ideal.Read.val_main_v19 (F := Ideal) (m (c, main_arg0)) (m (c, main_arg1)) (m (c, main_arg2)) := by
  refine (dats m 0 c).arrAt_eq_of_covers 9 _ (by decide +kernel) fun t hf y => ?_
  rw [after0_9]
  idx_vars y
  blk_simp
  have e : ((cfg0.win 9).blk t).view.emb (ix2 y0 y1) = ix2 (row t y0) y1 := by
    blk_ext [idx t]
  erw [e]
  rw [Cert.Reference4Ideal.Row.v19_apply, Body.out9_apply]
  simp only [blk0, blk1, blk4]

theorem final10 : (dats m 0 c).arrAt 10 cfg0.N = Cert.Reference4Ideal.Read.val_main_v20 (F := Ideal) (m (c, main_arg0)) (m (c, main_arg1)) (m (c, main_arg2)) := by
  refine (dats m 0 c).arrAt_eq_of_covers 10 _ (by decide +kernel) fun t hf y => ?_
  rw [after0_10]
  idx_vars y
  blk_simp
  have e : ((cfg0.win 10).blk t).view.emb (ix2 y0 y1) = ix2 (row t y0) y1 := by
    blk_ext [idx t]
  erw [e]
  rw [Cert.Reference4Ideal.Row.v20_apply, Body.out10_apply]
  simp only [blk0, blk1, blk5]

theorem final11 : (dats m 0 c).arrAt 11 cfg0.N = Cert.Reference4Ideal.Read.val_main_v22 (F := Ideal) (m (c, main_arg0)) (m (c, main_arg1)) (m (c, main_arg2)) := by
  refine (dats m 0 c).arrAt_eq_of_covers 11 _ (by decide +kernel) fun t hf y => ?_
  rw [after0_11]
  idx_vars y
  blk_simp
  have e : ((cfg0.win 11).blk t).view.emb (ix2 y0 y1) = ix2 (row t y0) y1 := by
    blk_ext [idx t]
  erw [e]
  rw [Cert.Reference4Ideal.Row.v22_apply, Body.out11_apply]
  simp only [blk0, blk1, blk6]
  by_cases h : y1.val < 8
  · simp only [dif_pos h, proj]
  · simp only [dif_neg h, proj, mul_zero, Finset.sum_const_zero]

/-- A run of the call ends with the reference's five arrays in the results and the arguments as they were. -/
theorem run (ρ : Dev nD → PrngReg) :
    θ_run defs (onTc (τ := τ) (main (F := Ideal))) ⟨m, fun _ => 0, ρ⟩ fun r => ∀ c : Dev nD,
      r.2.mem ((c : Thread nD τ).loc main_v15_0) = Cert.Reference4Ideal.Read.val_main_v17 (F := Ideal) (m (c, main_arg0)) (m (c, main_arg1)) (m (c, main_arg2))
      ∧ r.2.mem ((c : Thread nD τ).loc main_v15_1) = Cert.Reference4Ideal.Read.val_main_v18 (F := Ideal) (m (c, main_arg0)) (m (c, main_arg1)) (m (c, main_arg2))
      ∧ r.2.mem ((c : Thread nD τ).loc main_v15_2) = Cert.Reference4Ideal.Read.val_main_v19 (F := Ideal) (m (c, main_arg0)) (m (c, main_arg1)) (m (c, main_arg2))
      ∧ r.2.mem ((c : Thread nD τ).loc main_v15_3) = Cert.Reference4Ideal.Read.val_main_v20 (F := Ideal) (m (c, main_arg0)) (m (c, main_arg1)) (m (c, main_arg2))
      ∧ r.2.mem ((c : Thread nD τ).loc main_v15_4) = Cert.Reference4Ideal.Read.val_main_v22 (F := Ideal) (m (c, main_arg0)) (m (c, main_arg1)) (m (c, main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ?_) (Cert.Kernel4Ideal.Value.run_blocks m ρ)
  rw [← final7, ← final8, ← final9, ← final10, ← final11]
  exact h c

end Cert.Kernel4Ideal.Final

end
-- ==== Proof.QkvRow.lean ====
/- One row of the attention layer's queries, keys and values: projection, normalisation of each head, rotation by
   the position's angles. -/
module

public import proofs.«01_k».proof.Proof.FfnRow

@[expose] public section

noncomputable section

namespace Cert.QkvRow

open Idealize.ShloMosaic Cert.FfnRow

/-- Entry `e` of head `h` in a row of eight heads of 128 entries; which head an entry is in, and where. -/
def at8 (h : Fin 8) (e : Fin 128) : Fin 1024 := ⟨128 * h.val + e.val, by omega⟩
def hd8 (k : Fin 1024) : Fin 8 := ⟨k.val / 128, by omega⟩
def el8 (k : Fin 1024) : Fin 128 := ⟨k.val % 128, by omega⟩

theorem at8_hd_el (k : Fin 1024) : at8 (hd8 k) (el8 k) = k := Fin.ext (Nat.div_add_mod _ _)

/-- The entry half a head away. -/
def turn (e : Fin 128) : Fin 128 := ⟨(e.val + 64) % 128, by omega⟩

/-- A head normalised and weighted entry by entry. -/
def headNorm (t g : Fin 128 → EReal) (e : Fin 128) : EReal := t e * rms 1124073472#32 t * g e

/-- A head rotated: each entry times its cosine, plus its partner times its (signed) sine. -/
def spin (y cos sin : Fin 128 → EReal) (e : Fin 128) : EReal := y e * cos e + y (turn e) * sin e

/-- Entry `e` of head `h` of a row's queries or keys. -/
def head (x g : Fin 1024 → EReal) (w : Fin 1024 → Fin 1024 → EReal) (gh cos sin : Fin 128 → EReal)
    (h : Fin 8) (e : Fin 128) : EReal :=
  spin (headNorm (fun e => proj x g w (at8 h e)) gh) cos sin e

/-- Where entry `e` of a head stands in its half. -/
def half (e : Fin 128) : Fin 64 := ⟨e.val % 64, by omega⟩

/-- The cosines of a head's 64 angles, for both halves; the sines, those of the first half with their sign turned. -/
def cosTab (C : Fin 64 → EReal) (e : Fin 128) : EReal := C (half e)
def sinTab (S : Fin 64 → EReal) (e : Fin 128) : EReal := if e.val < 64 then -S (half e) else S (half e)

/-- The rotation as it is usually written, half by half. -/
theorem spin_eq (y : Fin 128 → EReal) (C S : Fin 64 → EReal) (e : Fin 128) : spin y (cosTab C) (sinTab S) e
    = if h : e.val < 64 then y e * C ⟨e.val, h⟩ - y ⟨64 + e.val, by omega⟩ * S ⟨e.val, h⟩
      else y e * C ⟨e.val - 64, by omega⟩ + y ⟨e.val - 64, by omega⟩ * S ⟨e.val - 64, by omega⟩ := by
  unfold spin cosTab sinTab
  split
  · rename_i h
    rw [show half e = ⟨e.val, h⟩ from Fin.ext (by simp only [half]; omega),
      show turn e = ⟨64 + e.val, by omega⟩ from Fin.ext (by simp only [turn]; omega), mul_neg, sub_eq_add_neg]
  · rename_i h
    rw [show half e = ⟨e.val - 64, by omega⟩ from Fin.ext (by simp only [half]; omega),
      show turn e = ⟨e.val - 64, by omega⟩ from Fin.ext (by simp only [turn]; omega)]

end Cert.QkvRow

end
-- ==== Proof.QkvBody.lean ====
/- What one grid point of the attention layer's projection leaves in its six blocks. -/
module

public import proofs.«01_k».proof.Proof.Gen.Kernel5Ideal.Value
public import proofs.«01_k».proof.Proof.QkvRow
public import Idealize.ShloMosaic.Lib.Pointwise
public import Idealize.ShloMosaic.Lib.KernelVsHost
public import Idealize.ShloMosaic.Lib.Pipeline.ReadBack
public import Idealize.ShloMosaic.Lib.Pipeline.ValueKit

@[expose] public section

set_option maxRecDepth 16384

noncomputable section

namespace Cert.Kernel5Ideal.Body

open Cert.Kernel5Ideal Cert.Kernel5Ideal.Gen Cert.FfnRow Cert.QkvRow Idealize.ShloMosaic Idealize.ShloMosaic.TcCoe Idealize.SL.Sem

/-! ## One tile, from the vectors loaded for it -/

/-- The half `j` of the point's 512 rows and the head `h` of 8; the chunk of columns and the place in it that hold head `h`. -/
theorem halfX : ∀ j : Fin 2, S512x1024.Slices ![256 * j.val, 0] S256x1024 := by decide
theorem halfT : ∀ j : Fin 2, S512x128.Slices ![256 * j.val, 0] S256x128 := by decide
theorem side : ∀ i : Fin 2, S256x256.Slices ![0, 128 * i.val] S256x128 := by decide

variable (v0 : Vec Ideal S512x1024 .f32) (v1 : Vec Ideal S1x1024 .f32) (L : Vec Ideal S1024x256 .bf16) (g : Vec Ideal S1x128 .f32)
  (cs sn : Vec Ideal S512x128 .f32) (j i : Fin 2)

/-- Half `j` of the normalised rows times a chunk of 256 columns. -/
def lin : FVec Ideal S256x256 .f32 :=
  matmul dot_S256x1024_S1024x256_S256x256_1_0_0_1_n_n none (extractStridedSlice S256x1024 ![256 * j.val, 0] (k0_pay4 v0 v1) (halfX j))
    (shapeCast S1024x256 L shapeCasts_S1024x256_S1024x256 : FVec Ideal S1024x256 .bf16) (constant S256x256 .f32 0x00000000#32)

/-- One head of a tile, normalised. -/
def nrm (x : FVec Ideal S256x128 .f32) : FVec Ideal S256x128 .f32 :=
  mulf (mulf x (broadcastTo S256x128 (rsqrt (addf (divf (shapeCast S256x1 (multiReduction .add [1] S256 (mulf x x) 0x00000000#32 reduces_S256x128_S256 (.inl rfl) rfl) shapeCasts_S256_S256x1)
    (broadcast S256x1 (Scalar.ofBits .f32 0x43000000#32))) (broadcast S256x1 (Scalar.ofBits .f32 0x358637BD#32)))) broadcasts_S256x1_S256x128))
    (broadcastTo S256x128 (shapeCast S1x128 g shapeCasts_S1x128_S1x128) broadcasts_S1x128_S256x128)

/-- One head of a tile, normalised and rotated. -/
def tile : FVec Ideal S256x128 .f32 :=
  addf (mulf (nrm g (extractStridedSlice S256x128 ![0, 128 * i.val] (lin v0 v1 L j) (side i)))
      (extractStridedSlice S256x128 ![256 * j.val, 0] (shapeCast S512x128 cs shapeCasts_S512x128_S512x128) (halfT j)))
    (mulf (dynamicRotate 1 64#32 none (nrm g (extractStridedSlice S256x128 ![0, 128 * i.val] (lin v0 v1 L j) (side i))) rotates_S256x128_d1)
      (extractStridedSlice S256x128 ![256 * j.val, 0] (shapeCast S512x128 sn shapeCasts_S512x128_S512x128) (halfT j)))

abbrev row (r : Fin 256) : Fin 512 := ⟨256 * j.val + r.val, by omega⟩
abbrev col (e : Fin 128) : Fin 256 := ⟨128 * i.val + e.val, by omega⟩

theorem pay4_apply (r : Fin 512) (k : Fin 1024) :
    k0_pay4 v0 v1 (ix2 r k) = normed (fun k => v0 (ix2 r k)) (fun k => v1 (ix2 0 k)) k := by
  pointwise [k0_pay4]
  rfl

theorem lin_apply (r e : Fin 256) : lin v0 v1 L j (ix2 r e)
    = ∑ k, normed (fun k => v0 (ix2 (row j r) k)) (fun k => v1 (ix2 0 k)) k * L (ix2 k e) := by
  unfold lin
  pointwise
  simp only [pay4_apply]

theorem nrm_apply (x : FVec Ideal S256x128 .f32) (r : Fin 256) (e : Fin 128) : nrm g x (ix2 r e)
    = headNorm (fun e => x (ix2 r e)) (fun e => g (ix2 0 e)) e := by
  unfold nrm
  pointwise
  rfl

theorem tile_apply (r : Fin 256) (e : Fin 128) : tile v0 v1 L g cs sn j i (ix2 r e)
    = spin (headNorm (fun e => ∑ k, normed (fun k => v0 (ix2 (row j r) k)) (fun k => v1 (ix2 0 k)) k * L (ix2 k (col i e))) (fun e => g (ix2 0 e)))
        (fun e => cs (ix2 (row j r) e)) (fun e => sn (ix2 (row j r) e)) e := by
  unfold tile
  pointwise
  simp only [nrm_apply]
  pointwise
  simp only [lin_apply]
  rfl

/-! ## The blocks the point leaves, index by index -/

variable (x : Vec Ideal S512x1024 .f32) (g1 : Vec Ideal S1x1024 .f32) (w : Vec Ideal S1024x1024 .bf16) (gh : Vec Ideal S1x128 .f32)
  (cos sin : Vec Ideal S512x128 .f32)

/-- The queries or keys of row `r`, column `k`. -/
def spun (r : Fin 512) (k : Fin 1024) : EReal :=
  head (fun k => x (ix2 r k)) (fun k => g1 (ix2 0 k)) (fun k c => w (ix2 k c)) (fun e => gh (ix2 0 e))
    (fun e => cos (ix2 r e)) (fun e => sin (ix2 r e)) (hd8 k) (el8 k)

/-- The values of row `r`, column `k`. -/
def vals (r : Fin 512) (k : Fin 1024) : EReal :=
  proj (fun k => x (ix2 r k)) (fun k => g1 (ix2 0 k)) (fun k c => w (ix2 k c)) k

/-- The values laid out head by head with the rows as columns, under each head 16 rows of ones. -/
def valsT (j : Fin 2) (p : Fin 1152) (r : Fin 256) : EReal :=
  if h : p.val % 144 < 128 then vals x g1 w (row j r) ⟨128 * (p.val / 144) + p.val % 144, by omega⟩ else 1

/-- The mean key of half `j` of the rows. -/
def meanKey (j : Fin 2) (k : Fin 1024) : EReal :=
  Ideal.div (∑ r : Fin 256, spun x g1 w gh cos sin (row j r) k) (Ideal.ofBits FTy.f32 1132462080#32)

theorem colsIn : ∀ (q : Fin 4) (a : Fin 2), ![0, 256 * q.val] a + S1024x256.size a ≤ S1024x1024.size a := by decide

/-- A chunk of 256 columns of a table. -/
abbrev chunk (q : Fin 4) : Rect S1024x1024 := Rect.unit ![0, 256 * q.val] S1024x256.size (colsIn q)

/-- The chunk that holds head `h`, and the side of the chunk that does. -/
abbrev cq (h : Fin 8) : Fin 4 := ⟨h.val / 2, by omega⟩
abbrev cs2 (h : Fin 8) : Fin 2 := ⟨h.val % 2, by omega⟩

theorem lin_chunk (j : Fin 2) (q : Fin 4) (r e : Fin 256) :
    lin x g1 (View.ld w (chunk q)) j (ix2 r e) = vals x g1 w (row j r) ⟨256 * q.val + e.val, by omega⟩ := by
  rw [lin_apply]
  unfold vals proj
  refine Finset.sum_congr rfl fun k _ => congrArg _ ?_
  exact View.ld_unit_apply_of w _ _ _ _ _ fun a => by fin_cases a <;> simp

theorem tile_chunk (j : Fin 2) (h : Fin 8) (r : Fin 256) (e : Fin 128) :
    tile x g1 (View.ld w (chunk (cq h))) gh cos sin j (cs2 h) (ix2 r e) = spun x g1 w gh cos sin (row j r) (at8 h e) := by
  rw [tile_apply]
  have hh : hd8 (at8 h e) = h := Fin.ext (by simp only [hd8, at8]; omega)
  have he : el8 (at8 h e) = e := Fin.ext (by simp only [el8, at8]; omega)
  unfold spun head
  rw [hh, he]
  refine congrArg (fun f => spin (headNorm f fun e => gh (ix2 0 e)) _ _ e) (funext fun e => ?_)
  rw [← lin_apply, lin_chunk]
  exact congrArg (vals x g1 w (row j r)) (Fin.ext (by simp only [at8]; omega))

/-! ## The pieces the run stores, as families -/

/-- What a load of the run reads: the rectangle of the block's contents. -/
theorem load_eq {s : Shape} {e : EltTy} (a : Memref sig .tc .vmem s e) (ha : a.IsWhole) (x : Vec Ideal s e) (R : Rect s) :
    a.view.readAt (Elt Ideal) R.toLoadRect (ha.unread x) = View.ld x R := by
  funext k
  rw [View.readAt_apply, ha.read_unread]

/-- A load of the whole block. -/
theorem whole {s : Shape} {e : EltTy} (x : Vec Ideal s e) {off : Fin s.rank → ℕ} (inb : ∀ a, off a + s.size a ≤ s.size a) (h : ∀ a, off a = 0) :
    View.ld (Val := Elt Ideal) x (Rect.unit off s.size inb) = x := View.ld_unit_lit inb x h

/-- The half and the head of the `k`-th of 16 pieces, the last stored first; likewise the half and the chunk of the `k`-th of 8. -/
abbrev pj (k : Fin 16) : Fin 2 := ⟨(15 - k.val) / 8, by omega⟩
abbrev ph (k : Fin 16) : Fin 8 := ⟨(15 - k.val) % 8, by omega⟩
abbrev vj (k : Fin 8) : Fin 2 := ⟨(7 - k.val) / 4, by omega⟩
abbrev vq (k : Fin 8) : Fin 4 := ⟨(7 - k.val) % 4, by omega⟩

theorem tileIn : ∀ (j : Fin 2) (h : Fin 8) (a : Fin 2), ![256 * j.val, 128 * h.val] a + S256x128.size a ≤ S512x1024.size a := by decide
theorem vIn : ∀ (j : Fin 2) (q : Fin 4) (a : Fin 2), ![256 * j.val, 256 * q.val] a + S256x256.size a ≤ S512x1024.size a := by decide
theorem kmIn : ∀ (j : Fin 2) (h : Fin 8) (a : Fin 3), ![j.val, 0, 128 * h.val] a + S1x8x128.size a ≤ S2x8x1024.size a := by decide
theorem vtIn : ∀ (j : Fin 2) (h : Fin 8) (a : Fin 3), ![j.val, 144 * h.val, 0] a + S1x128x256.size a ≤ S2x1152x256.size a := by decide
theorem onesIn : ∀ (j : Fin 2) (h : Fin 8) (a : Fin 3), ![j.val, 144 * h.val + 128, 0] a + S1x16x256.size a ≤ S2x1152x256.size a := by decide

variable (m : (ℓ : Loc nD τ sig) → Buf (Elt Ideal) ℓ) (c : Dev nD) (t : Fin cfg0.N)

/-- The loads of the run at point `t`. -/
abbrev l0 := (ms0_0 t).view.readAt (Elt Ideal) (Rect.unit (s := S512x1024) ![0, 0] S512x1024.size inb_S512x1024_S512x1024_0_0).toLoadRect ((hs0_0 t).unread (iblk m c 0 t))
abbrev l1 := (ms0_1 t).view.readAt (Elt Ideal) (Rect.unit (s := S1x1024) ![0, 0] S1x1024.size inb_S1x1024_S1x1024_0_0).toLoadRect ((hs0_1 t).unread (iblk m c 1 t))
abbrev l2 (q : Fin 4) := (ms0_2 t).view.readAt (Elt Ideal) (chunk q).toLoadRect ((hs0_2 t).unread (iblk m c 2 t))
abbrev l3 (q : Fin 4) := (ms0_3 t).view.readAt (Elt Ideal) (chunk q).toLoadRect ((hs0_3 t).unread (iblk m c 3 t))
abbrev l4 (q : Fin 4) := (ms0_4 t).view.readAt (Elt Ideal) (chunk q).toLoadRect ((hs0_4 t).unread (iblk m c 4 t))
abbrev l5 := (ms0_5 t).view.readAt (Elt Ideal) (Rect.unit (s := S1x128) ![0, 0] S1x128.size inb_S1x128_S1x128_0_0).toLoadRect ((hs0_5 t).unread (iblk m c 5 t))
abbrev l6 := (ms0_6 t).view.readAt (Elt Ideal) (Rect.unit (s := S1x128) ![0, 0] S1x128.size inb_S1x128_S1x128_0_0).toLoadRect ((hs0_6 t).unread (iblk m c 6 t))
abbrev l7 := (ms0_7 t).view.readAt (Elt Ideal) (Rect.unit (s := S512x128) ![0, 0] S512x128.size inb_S512x128_S512x128_0_0).toLoadRect ((hs0_7 t).unread (iblk m c 7 t))
abbrev l8 := (ms0_8 t).view.readAt (Elt Ideal) (Rect.unit (s := S512x128) ![0, 0] S512x128.size inb_S512x128_S512x128_0_0).toLoadRect ((hs0_8 t).unread (iblk m c 8 t))

/-- The tiles of queries and of keys the run computes. -/
def qTile (j : Fin 2) (h : Fin 8) := tile (l0 m c t) (l1 m c t) (l2 m c t (cq h)) (l5 m c t) (l7 m c t) (l8 m c t) j (cs2 h)
def kTile (j : Fin 2) (h : Fin 8) := tile (l0 m c t) (l1 m c t) (l3 m c t (cq h)) (l6 m c t) (l7 m c t) (l8 m c t) j (cs2 h)

theorem qTile_apply (j : Fin 2) (h : Fin 8) (r : Fin 256) (e : Fin 128) : qTile m c t j h (ix2 r e)
    = spun (iblk m c 0 t) (iblk m c 1 t) (iblk m c 2 t) (iblk m c 5 t) (iblk m c 7 t) (iblk m c 8 t) (row j r) (at8 h e) := by
  rw [← tile_chunk]
  unfold qTile
  simp only [load_eq]
  rw [whole _ _ (by decide), whole _ _ (by decide), whole _ _ (by decide), whole _ _ (by decide), whole _ _ (by decide)]

theorem kTile_apply (j : Fin 2) (h : Fin 8) (r : Fin 256) (e : Fin 128) : kTile m c t j h (ix2 r e)
    = spun (iblk m c 0 t) (iblk m c 1 t) (iblk m c 3 t) (iblk m c 6 t) (iblk m c 7 t) (iblk m c 8 t) (row j r) (at8 h e) := by
  rw [← tile_chunk]
  unfold kTile
  simp only [load_eq]
  rw [whole _ _ (by decide), whole _ _ (by decide), whole _ _ (by decide), whole _ _ (by decide), whole _ _ (by decide)]

/-- The tile of values the run computes. -/
def vTile (j : Fin 2) (q : Fin 4) : S256x256.Idx → Elt Ideal .f32 := lin (l0 m c t) (l1 m c t) (l4 m c t q) j

theorem vTile_apply (j : Fin 2) (q : Fin 4) (r e : Fin 256) : vTile m c t j q (ix2 r e)
    = vals (iblk m c 0 t) (iblk m c 1 t) (iblk m c 4 t) (row j r) ⟨256 * q.val + e.val, by omega⟩ := by
  rw [← lin_chunk]
  unfold vTile
  simp only [load_eq]
  rw [whole _ _ (by decide), whole _ _ (by decide)]

/-- A buffer written by a family of pieces that are blocks of one function reads as that function where they reach. -/
theorem read_family {s : Shape} {e : EltTy} {N : ℕ} (v : View sig .tc .vmem s e) (P : Fin N → View.Piece (Elt Ideal) s e) (G : s.Idx → Elt Ideal e)
    (h : ∀ k x, (P k).2 x = G ((P k).1.emb x)) (y : s.Idx) (hc : ∃ p ∈ List.ofFn P, y ∈ p.1.set) :
    v.read (Elt Ideal) (v.writes (Elt Ideal) v.junk (List.ofFn P)) y = G y :=
  View.read_writes_apply_of_pieces v v.junk G _ (fun p hp => by
    obtain ⟨k, rfl⟩ := List.mem_ofFn.mp hp
    exact h k) y hc

theorem emb_tile (j : Fin 2) (h : Fin 8) (r : Fin 256) (e : Fin 128) :
    (Rect.unit (s := S512x1024) ![256 * j.val, 128 * h.val] S256x128.size (tileIn j h)).emb (ix2 r e) = ix2 (row j r) (at8 h e) := by
  blk_ext [at8]

/-- A piece over one head's tile of the point's rows. -/
def headPiece {e : EltTy} (T : Fin 2 → Fin 8 → S256x128.Idx → Elt Ideal e) (k : Fin 16) : View.Piece (Elt Ideal) S512x1024 e :=
  ⟨Rect.unit ![256 * (pj k).val, 128 * (ph k).val] S256x128.size (tileIn (pj k) (ph k)), T (pj k) (ph k)⟩

theorem headPiece_apply {e : EltTy} (T : Fin 2 → Fin 8 → S256x128.Idx → Elt Ideal e) (F : Fin 512 → Fin 1024 → Elt Ideal e)
    (h : ∀ j hh r e, T j hh (ix2 r e) = F (row j r) (at8 hh e)) (k : Fin 16) :
    ∀ x, (headPiece T k).2 x = (fun y : S512x1024.Idx => F (y 0) (y 1)) ((headPiece T k).1.emb x) := by
  show ∀ x : S256x128.Idx, T (pj k) (ph k) x = (fun y : S512x1024.Idx => F (y 0) (y 1))
    ((Rect.unit (s := S512x1024) ![256 * (pj k).val, 128 * (ph k).val] S256x128.size (tileIn (pj k) (ph k))).emb x)
  intro x
  idx_vars x
  exact (h _ _ _ _).trans (congrArg (fun y : S512x1024.Idx => F (y 0) (y 1)) (emb_tile (pj k) (ph k) x0 x1).symm)

theorem q_pieces : (kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) (iblk m c 8 t)).1 = List.ofFn (headPiece (e := .f32) (qTile m c t)) := by
  sl_kernel_rfl

theorem q_apply (r : Fin 512) (k : Fin 1024) : (outsAt0 m c t).1 (ix2 r k) = spun (iblk m c 0 t) (iblk m c 1 t) (iblk m c 2 t) (iblk m c 5 t) (iblk m c 7 t) (iblk m c 8 t) r k := by
  have hc := (cover0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) (iblk m c 8 t) (ix2 r k))
  rw [q_pieces] at hc
  dsimp only [outsAt0]
  unfold out0_A_9
  rw [q_pieces]
  exact read_family VO0_9 (headPiece (e := .f32) (qTile m c t)) (fun y => spun (iblk m c 0 t) (iblk m c 1 t) (iblk m c 2 t) (iblk m c 5 t) (iblk m c 7 t) (iblk m c 8 t) (y 0) (y 1))
    (headPiece_apply (e := .f32) (qTile m c t) (spun (iblk m c 0 t) (iblk m c 1 t) (iblk m c 2 t) (iblk m c 5 t) (iblk m c 7 t) (iblk m c 8 t)) (qTile_apply m c t)) (ix2 r k) hc

theorem k_pieces : (kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) (iblk m c 8 t)).2.1 = List.ofFn (headPiece (e := .f32) (kTile m c t)) := by
  sl_kernel_rfl

theorem k_apply (r : Fin 512) (k : Fin 1024) : (outsAt0 m c t).2.1 (ix2 r k) = spun (iblk m c 0 t) (iblk m c 1 t) (iblk m c 3 t) (iblk m c 6 t) (iblk m c 7 t) (iblk m c 8 t) r k := by
  have hc := (cover0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) (iblk m c 8 t) (ix2 r k))
  rw [k_pieces] at hc
  dsimp only [outsAt0]
  unfold out0_A_10
  rw [k_pieces]
  exact read_family VO0_10 (headPiece (e := .f32) (kTile m c t)) (fun y => spun (iblk m c 0 t) (iblk m c 1 t) (iblk m c 3 t) (iblk m c 6 t) (iblk m c 7 t) (iblk m c 8 t) (y 0) (y 1))
    (headPiece_apply (e := .f32) (kTile m c t) (spun (iblk m c 0 t) (iblk m c 1 t) (iblk m c 3 t) (iblk m c 6 t) (iblk m c 7 t) (iblk m c 8 t)) (kTile_apply m c t)) (ix2 r k) hc

/-- The keys once more, in the narrow type. -/
def kTileB (j : Fin 2) (h : Fin 8) : FVec Ideal S256x128 .bf16 := truncf .bf16 (kTile m c t j h : FVec Ideal S256x128 .f32) bitsLt_bf16_f32

theorem kb_pieces : (kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) (iblk m c 8 t)).2.2.2.1 = List.ofFn (headPiece (e := .bf16) (kTileB m c t)) := by
  sl_kernel_rfl

theorem kb_apply (r : Fin 512) (k : Fin 1024) : (outsAt0 m c t).2.2.2.1 (ix2 r k) = spun (iblk m c 0 t) (iblk m c 1 t) (iblk m c 3 t) (iblk m c 6 t) (iblk m c 7 t) (iblk m c 8 t) r k := by
  have hc := (cover0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) (iblk m c 8 t) (ix2 r k))
  rw [kb_pieces] at hc
  dsimp only [outsAt0]
  unfold out0_A_12
  rw [kb_pieces]
  exact read_family VO0_12 (headPiece (e := .bf16) (kTileB m c t)) (fun y => spun (iblk m c 0 t) (iblk m c 1 t) (iblk m c 3 t) (iblk m c 6 t) (iblk m c 7 t) (iblk m c 8 t) (y 0) (y 1))
    (headPiece_apply (e := .bf16) (kTileB m c t) (spun (iblk m c 0 t) (iblk m c 1 t) (iblk m c 3 t) (iblk m c 6 t) (iblk m c 7 t) (iblk m c 8 t)) (kTile_apply m c t)) (ix2 r k) hc

def vPiece (k : Fin 8) : View.Piece (Elt Ideal) S512x1024 .f32 :=
  ⟨Rect.unit ![256 * (vj k).val, 256 * (vq k).val] S256x256.size (vIn (vj k) (vq k)), vTile m c t (vj k) (vq k)⟩

theorem emb_v (j : Fin 2) (q : Fin 4) (r e : Fin 256) :
    (Rect.unit (s := S512x1024) ![256 * j.val, 256 * q.val] S256x256.size (vIn j q)).emb (ix2 r e) = ix2 (row j r) ⟨256 * q.val + e.val, by omega⟩ := by
  blk_ext []

theorem vPiece_apply (k : Fin 8) :
    ∀ x, (vPiece m c t k).2 x = (fun y : S512x1024.Idx => vals (iblk m c 0 t) (iblk m c 1 t) (iblk m c 4 t) (y 0) (y 1)) ((vPiece m c t k).1.emb x) := by
  show ∀ x : S256x256.Idx, vTile m c t (vj k) (vq k) x = (fun y : S512x1024.Idx => vals (iblk m c 0 t) (iblk m c 1 t) (iblk m c 4 t) (y 0) (y 1))
    ((Rect.unit (s := S512x1024) ![256 * (vj k).val, 256 * (vq k).val] S256x256.size (vIn (vj k) (vq k))).emb x)
  generalize vj k = j, vq k = q
  intro x
  idx_vars x
  rw [emb_v, vTile_apply]
  rfl

theorem v_pieces : (kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) (iblk m c 8 t)).2.2.1 = List.ofFn (vPiece m c t) := by
  sl_kernel_rfl

theorem v_apply (r : Fin 512) (k : Fin 1024) : (outsAt0 m c t).2.2.1 (ix2 r k) = vals (iblk m c 0 t) (iblk m c 1 t) (iblk m c 4 t) r k := by
  have hc := (cover0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) (iblk m c 8 t) (ix2 r k))
  rw [v_pieces] at hc
  dsimp only [outsAt0]
  unfold out0_A_11
  rw [v_pieces]
  exact read_family VO0_11 (vPiece m c t) (fun y => vals (iblk m c 0 t) (iblk m c 1 t) (iblk m c 4 t) (y 0) (y 1)) (vPiece_apply m c t) (ix2 r k) hc

/-! ### The mean keys -/

/-- The mean over a tile's rows, written eight times. -/
def meanTile (x : FVec Ideal S256x128 .f32) : FVec Ideal S1x8x128 .f32 :=
  shapeCast S1x8x128 (broadcastTo S8x128 (shapeCast S1x128 (divf (shapeCast S1x128 (multiReduction .add [0] S128 x 0x00000000#32 reduces_S256x128_S128 (.inl rfl) rfl) shapeCasts_S128_S1x128)
    (broadcast S1x128 (Scalar.ofBits .f32 0x43800000#32))) shapeCasts_S1x128_S1x128) broadcasts_S1x128_S8x128) shapeCasts_S8x128_S1x8x128

theorem meanTile_apply (x : FVec Ideal S256x128 .f32) (a : Fin 8) (e : Fin 128) :
    meanTile x (ix3 0 a e) = Ideal.div (∑ r : Fin 256, x (ix2 r e)) (Ideal.ofBits FTy.f32 1132462080#32) := by
  unfold meanTile
  pointwise

def kmPiece (k : Fin 16) : View.Piece (Elt Ideal) S2x8x1024 .f32 :=
  ⟨Rect.unit ![(pj k).val, 0, 128 * (ph k).val] S1x8x128.size (kmIn (pj k) (ph k)), meanTile (kTile m c t (pj k) (ph k))⟩

theorem km_pieces : (kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) (iblk m c 8 t)).2.2.2.2.2.1 = List.ofFn (kmPiece m c t) := by
  sl_kernel_rfl

theorem km_apply (j : Fin 2) (a : Fin 8) (k : Fin 1024) : (outsAt0 m c t).2.2.2.2.2 (ix3 j a k)
    = meanKey (iblk m c 0 t) (iblk m c 1 t) (iblk m c 3 t) (iblk m c 6 t) (iblk m c 7 t) (iblk m c 8 t) j k := by
  have hc := (cover0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) (iblk m c 8 t) (ix3 j a k))
  rw [km_pieces] at hc
  dsimp only [outsAt0]
  unfold out0_A_14
  rw [km_pieces]
  refine read_family VO0_14 (kmPiece m c t) (fun y => meanKey (iblk m c 0 t) (iblk m c 1 t) (iblk m c 3 t) (iblk m c 6 t) (iblk m c 7 t) (iblk m c 8 t) (y 0) (y 2)) (fun k => ?_) (ix3 j a k) hc
  show ∀ x : S1x8x128.Idx, meanTile (kTile m c t (pj k) (ph k)) x = (fun y : S2x8x1024.Idx => meanKey (iblk m c 0 t) (iblk m c 1 t) (iblk m c 3 t) (iblk m c 6 t) (iblk m c 7 t) (iblk m c 8 t) (y 0) (y 2))
    ((Rect.unit (s := S2x8x1024) ![(pj k).val, 0, 128 * (ph k).val] S1x8x128.size (kmIn (pj k) (ph k))).emb x)
  intro x
  idx_vars x
  have e : (Rect.unit (s := S2x8x1024) ![(pj k).val, 0, 128 * (ph k).val] S1x8x128.size (kmIn (pj k) (ph k))).emb (ix3 x0 x1 x2)
      = ix3 (pj k) x1 (at8 (ph k) x2) := by blk_ext [at8]
  obtain rfl : x0 = 0 := Fin.ext (by omega)
  refine ((meanTile_apply _ _ _).trans ?_).trans (congrArg (fun y : S2x8x1024.Idx => meanKey (iblk m c 0 t) (iblk m c 1 t) (iblk m c 3 t) (iblk m c 6 t) (iblk m c 7 t) (iblk m c 8 t) (y 0) (y 2)) e.symm)
  simp only [kTile_apply]
  rfl

/-! ### The transposed values -/

/-- One head's values with the rows as columns; the rows of ones under it. -/
def turned (x : FVec Ideal S256x256 .f32) (i : Fin 2) : FVec Ideal S1x128x256 .bf16 :=
  shapeCast S1x128x256 (truncf .bf16 (transpose S128x256 [1, 0] (extractStridedSlice S256x128 ![0, 128 * i.val] x (side i)) transposes_S256x128_p1_0_S128x256 : FVec Ideal S128x256 .f32) bitsLt_bf16_f32) shapeCasts_S128x256_S1x128x256

theorem turned_apply (x : FVec Ideal S256x256 .f32) (i : Fin 2) (e : Fin 128) (r : Fin 256) : turned x i (ix3 0 e r) = x (ix2 r (col i e)) := by
  unfold turned
  pointwise

/-- The half and the head of the `k`-th of 32 pieces. -/
abbrev tj (k : Fin 32) : Fin 2 := ⟨(31 - k.val) / 16, by omega⟩
abbrev th (k : Fin 32) : Fin 8 := ⟨(31 - k.val) / 2 % 8, by omega⟩

def turnedPiece (j : Fin 2) (h : Fin 8) : View.Piece (Elt Ideal) S2x1152x256 .bf16 :=
  ⟨Rect.unit ![j.val, 144 * h.val, 0] S1x128x256.size (vtIn j h), turned (lin (l0 m c t) (l1 m c t) (l4 m c t (cq h)) j) (cs2 h)⟩
def onesPiece (j : Fin 2) (h : Fin 8) : View.Piece (Elt Ideal) S2x1152x256 .bf16 :=
  ⟨Rect.unit ![j.val, 144 * h.val + 128, 0] S1x16x256.size (onesIn j h), k0_pay3 (F := Ideal)⟩
def vtPiece (k : Fin 32) : View.Piece (Elt Ideal) S2x1152x256 .bf16 :=
  if (31 - k.val) % 2 = 0 then turnedPiece m c t (tj k) (th k) else onesPiece (tj k) (th k)

theorem turnedPiece_apply (j : Fin 2) (h : Fin 8) :
    ∀ x, (turnedPiece m c t j h).2 x = (fun y : S2x1152x256.Idx => valsT (iblk m c 0 t) (iblk m c 1 t) (iblk m c 4 t) (y 0) (y 1) (y 2)) ((turnedPiece m c t j h).1.emb x) := by
  show ∀ x : S1x128x256.Idx, turned (lin (l0 m c t) (l1 m c t) (l4 m c t (cq h)) j) (cs2 h) x = (fun y : S2x1152x256.Idx => valsT (iblk m c 0 t) (iblk m c 1 t) (iblk m c 4 t) (y 0) (y 1) (y 2))
    ((Rect.unit (s := S2x1152x256) ![j.val, 144 * h.val, 0] S1x128x256.size (vtIn j h)).emb x)
  intro x
  idx_vars x
  obtain rfl : x0 = 0 := Fin.ext (by omega)
  have e : (Rect.unit (s := S2x1152x256) ![j.val, 144 * h.val, 0] S1x128x256.size (vtIn j h)).emb (ix3 0 x1 x2)
      = ix3 j ⟨144 * h.val + x1.val, by omega⟩ x2 := by blk_ext []
  refine ((turned_apply _ _ _ _).trans (vTile_apply m c t _ _ _ _)).trans (Eq.trans ?_ (congrArg (fun y : S2x1152x256.Idx => valsT (iblk m c 0 t) (iblk m c 1 t) (iblk m c 4 t) (y 0) (y 1) (y 2)) e.symm))
  show _ = valsT _ _ _ j ⟨144 * h.val + x1.val, _⟩ x2
  unfold valsT
  rw [dif_pos (by dsimp only; omega)]
  exact congrArg (vals (iblk m c 0 t) (iblk m c 1 t) (iblk m c 4 t) (row j x2)) (Fin.ext (by dsimp only; omega))

theorem onesPiece_apply (j : Fin 2) (h : Fin 8) :
    ∀ x, (onesPiece j h).2 x = (fun y : S2x1152x256.Idx => valsT (iblk m c 0 t) (iblk m c 1 t) (iblk m c 4 t) (y 0) (y 1) (y 2)) ((onesPiece j h).1.emb x) := by
  show ∀ x : S1x16x256.Idx, k0_pay3 (F := Ideal) x = (fun y : S2x1152x256.Idx => valsT (iblk m c 0 t) (iblk m c 1 t) (iblk m c 4 t) (y 0) (y 1) (y 2))
    ((Rect.unit (s := S2x1152x256) ![j.val, 144 * h.val + 128, 0] S1x16x256.size (onesIn j h)).emb x)
  intro x
  idx_vars x
  have e : (Rect.unit (s := S2x1152x256) ![j.val, 144 * h.val + 128, 0] S1x16x256.size (onesIn j h)).emb (ix3 x0 x1 x2)
      = ix3 j ⟨144 * h.val + 128 + x1.val, by omega⟩ x2 := by blk_ext []
  refine Eq.trans ?_ (congrArg (fun y : S2x1152x256.Idx => valsT (iblk m c 0 t) (iblk m c 1 t) (iblk m c 4 t) (y 0) (y 1) (y 2)) e.symm)
  show _ = valsT _ _ _ j ⟨144 * h.val + 128 + x1.val, _⟩ x2
  unfold valsT
  rw [dif_neg (by dsimp only; omega)]
  pointwise [k0_pay3]

theorem vt_pieces : (kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) (iblk m c 8 t)).2.2.2.2.1 = List.ofFn (vtPiece m c t) := by
  sl_kernel_rfl

theorem vt_apply (j : Fin 2) (p : Fin 1152) (r : Fin 256) : (outsAt0 m c t).2.2.2.2.1 (ix3 j p r) = valsT (iblk m c 0 t) (iblk m c 1 t) (iblk m c 4 t) j p r := by
  have hc := (cover0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) (iblk m c 8 t) (ix3 j p r))
  rw [vt_pieces] at hc
  dsimp only [outsAt0]
  unfold out0_A_13
  rw [vt_pieces]
  refine read_family VO0_13 (vtPiece m c t) (fun y => valsT (iblk m c 0 t) (iblk m c 1 t) (iblk m c 4 t) (y 0) (y 1) (y 2)) (fun k => ?_) (ix3 j p r) hc
  by_cases h : (31 - k.val) % 2 = 0
  · rw [show vtPiece m c t k = turnedPiece m c t (tj k) (th k) from if_pos h]
    exact turnedPiece_apply m c t _ _
  · rw [show vtPiece m c t k = onesPiece (tj k) (th k) from if_neg h]
    exact onesPiece_apply m c t _ _

end Cert.Kernel5Ideal.Body

end
-- ==== Proof.QkvRef.lean ====
/- The plain reference of the attention layer's queries, keys and values, read at an index. -/
module

public import proofs.«01_k».proof.Proof.Gen.Reference5Ideal.Read
public import proofs.«01_k».proof.Proof.QkvRow
public import Idealize.ShloMosaic.Lib.Pointwise
public import Idealize.ShloMosaic.Lib.Tactic.CleanTypes

@[expose] public section

set_option maxRecDepth 16384

noncomputable section

namespace Cert.Reference5Ideal.Row

open Cert.Reference5Ideal Cert.Reference5Ideal.Gen Cert.Reference5Ideal.Read Cert.FfnRow Cert.QkvRow Idealize.ShloMosaic
  Idealize.ShloMosaic.TcCoe Idealize.SL.Sem

variable (x0 : (⟨S16384x1024, .f32⟩ : BufTy).Contents (Elt Ideal)) (x1 : (⟨S2x1024, .f32⟩ : BufTy).Contents (Elt Ideal))
  (x2 : (⟨S1x1024x3072, .f32⟩ : BufTy).Contents (Elt Ideal)) (x3 x4 : (⟨S1x128, .f32⟩ : BufTy).Contents (Elt Ideal))

theorem v15_apply (r : Fin 16384) (c : Fin 1024) :
    val_main_v15 x0 x1 (ix2 r c) = normed (fun k => x0 (ix2 r k)) (fun k => x1 (ix2 1 k)) c := by
  unfold val_main_v15 val_main_v14 val_main_v13 val_main_v12 val_main_v11 val_main_v10 val_main_v9 val_main_v8 val_main_v7
    val_main_v6 val_main_v5 val_main_v4 val_main_v3 val_main_v2 val_main_v1 val_main_cst val_main_cst_0 val_main_cst_1
  clean_types
  pointwise
  rfl

theorem v17_apply (r : Fin 16384) (c : Fin 3072) : val_main_v17 x0 x1 x2 (ix2 r c)
    = proj (fun k => x0 (ix2 r k)) (fun k => x1 (ix2 1 k)) (fun k c => x2 (ix3 0 k c)) c := by
  unfold val_main_v17 val_main_v16
  clean_types
  pointwise
  simp only [v15_apply]
  rfl

/-- The 1024 columns of the table from column `o` on. -/
def cols (o : ℕ) (h : o + 1024 ≤ 3072) (k c : Fin 1024) : EReal := x2 (ix3 0 k ⟨o + c.val, by omega⟩)

/-- Token `p` of sequence `b`. -/
abbrev tok (b : Fin 4) (p : Fin 4096) : Fin 16384 := ⟨4096 * b.val + p.val, by omega⟩

/-- A column of the product with the whole table is a column of the product with 1024 of its columns. -/
theorem sum_cols (o : ℕ) (h : o + 1024 ≤ 3072) (x g : Fin 1024 → EReal) (c : Fin 3072) (c' : Fin 1024)
    (e : c.val = o + c'.val) : proj x g (fun k c => x2 (ix3 0 k c)) c = proj x g (cols x2 o h) c' := by
  rw [show c = ⟨o + c'.val, by omega⟩ from Fin.ext e]
  rfl

theorem v20_apply (b : Fin 4) (p : Fin 4096) (h : Fin 8) (e : Fin 128) : val_main_v20 x0 x1 x2 (ix4 b p h e)
    = proj (fun k => x0 (ix2 (tok b p) k)) (fun k => x1 (ix2 1 k)) (cols x2 0 (by omega)) (at8 h e) := by
  unfold val_main_v20 val_main_v19 val_main_v18
  clean_types
  pointwise
  rw [show (⟨b.val * 4096 + p.val, by omega⟩ : Fin 16384) = tok b p from Fin.ext (by simp only; omega), v17_apply]
  exact sum_cols x2 0 (by omega) _ _ _ _ (by simp only [at8]; omega)

theorem v22_apply (b : Fin 4) (p : Fin 4096) (h : Fin 8) (e : Fin 128) : val_main_v22 x0 x1 x2 (ix4 b p h e)
    = proj (fun k => x0 (ix2 (tok b p) k)) (fun k => x1 (ix2 1 k)) (cols x2 1024 (by omega)) (at8 h e) := by
  unfold val_main_v22 val_main_v21 val_main_v18
  clean_types
  pointwise
  rw [show (⟨b.val * 4096 + p.val, by omega⟩ : Fin 16384) = tok b p from Fin.ext (by simp only; omega), v17_apply]
  exact sum_cols x2 1024 (by omega) _ _ _ _ (by simp only [at8]; omega)

theorem v24_apply (b : Fin 4) (p : Fin 4096) (h : Fin 8) (e : Fin 128) : val_main_v24 x0 x1 x2 (ix4 b p h e)
    = proj (fun k => x0 (ix2 (tok b p) k)) (fun k => x1 (ix2 1 k)) (cols x2 2048 (by omega)) (at8 h e) := by
  unfold val_main_v24 val_main_v23 val_main_v18
  clean_types
  pointwise
  rw [show (⟨b.val * 4096 + p.val, by omega⟩ : Fin 16384) = tok b p from Fin.ext (by simp only; omega), v17_apply]
  exact sum_cols x2 2048 (by omega) _ _ _ _ (by simp only [at8]; omega)

theorem v38_apply (b : Fin 4) (p : Fin 4096) (h : Fin 8) (e : Fin 128) : val_main_v38 x0 x1 x2 x3 (ix4 b p h e)
    = headNorm (fun e => val_main_v20 x0 x1 x2 (ix4 b p h e)) (fun e => x3 (ix2 0 e)) e := by
  unfold val_main_v38 val_main_v37 val_main_v36 val_main_v35 val_main_v34 val_main_v33 val_main_v32 val_main_v31 val_main_v30
    val_main_v29 val_main_v28 val_main_v27 val_main_v26 val_main_v25 val_main_cst_2 val_main_cst_3 val_main_cst_4
  clean_types
  pointwise
  rfl

theorem v67_apply (b : Fin 4) (p : Fin 4096) (h : Fin 8) (e : Fin 128) : val_main_v67 x0 x1 x2 x3 (ix4 b p h e)
    = spin (fun e => val_main_v38 x0 x1 x2 x3 (ix4 b p h e)) (cosTab fun i => val_main_v51 (F := Ideal) (ix2 p i))
        (sinTab fun i => val_main_v53 (F := Ideal) (ix2 p i)) e := by
  rw [spin_eq]
  unfold val_main_v67 val_main_v66 val_main_v65 val_main_v64 val_main_v63 val_main_v62 val_main_v61 val_main_v60
    val_main_v59 val_main_v58 val_main_v57 val_main_v56 val_main_v55 val_main_v54 val_main_v52
  clean_types
  pointwise
  refine dite_congr rfl (fun _ => rfl) fun h' => ?_
  rw [show (⟨64 + (e.val - 64), by omega⟩ : Fin 128) = e from Fin.ext (by simp only; omega)]

theorem v81_apply (b : Fin 4) (p : Fin 4096) (h : Fin 8) (e : Fin 128) : val_main_v81 x0 x1 x2 x4 (ix4 b p h e)
    = headNorm (fun e => val_main_v22 x0 x1 x2 (ix4 b p h e)) (fun e => x4 (ix2 0 e)) e := by
  unfold val_main_v81 val_main_v80 val_main_v79 val_main_v78 val_main_v77 val_main_v76 val_main_v75 val_main_v74 val_main_v73
    val_main_v72 val_main_v71 val_main_v70 val_main_v69 val_main_v68 val_main_cst_7 val_main_cst_8 val_main_cst_9
  clean_types
  pointwise
  rfl

theorem v110_apply (b : Fin 4) (p : Fin 4096) (h : Fin 8) (e : Fin 128) : val_main_v110 x0 x1 x2 x4 (ix4 b p h e)
    = spin (fun e => val_main_v81 x0 x1 x2 x4 (ix4 b p h e)) (cosTab fun i => val_main_v94 (F := Ideal) (ix2 p i))
        (sinTab fun i => val_main_v96 (F := Ideal) (ix2 p i)) e := by
  rw [spin_eq]
  unfold val_main_v110 val_main_v109 val_main_v108 val_main_v107 val_main_v106 val_main_v105 val_main_v104 val_main_v103
    val_main_v102 val_main_v101 val_main_v100 val_main_v99 val_main_v98 val_main_v97 val_main_v95
  clean_types
  pointwise
  refine dite_congr rfl (fun _ => rfl) fun h' => ?_
  rw [show (⟨64 + (e.val - 64), by omega⟩ : Fin 128) = e from Fin.ext (by simp only; omega)]

/-- Angle `i` of position `p`. -/
def angle (p : Fin 4096) (i : Fin 64) : EReal :=
  (FloatOps.sitofp FTy.f32 (BitVec.ofNat 32 p.val) : Ideal .f32) * Ideal.pow (Ideal.ofBits FTy.f32 1176256512#32)
    (Ideal.div (-(FloatOps.sitofp FTy.f32 (BitVec.ofNat 32 i.val) : Ideal .f32)) (Ideal.ofBits FTy.f32 1115684864#32))

theorem v51_apply (p : Fin 4096) (i : Fin 64) : val_main_v51 (F := Ideal) (ix2 p i) = Ideal.cos (angle p i) := by
  unfold val_main_v51 val_main_v50 val_main_v49 val_main_v48 val_main_v47 val_main_v46 val_main_v45 val_main_v44 val_main_v43
    val_main_v42 val_main_v41 val_main_v40 val_main_v39 val_main_v0 val_main_cst_5 val_main_cst_6
  clean_types
  pointwise
  rfl

theorem v53_apply (p : Fin 4096) (i : Fin 64) : val_main_v53 (F := Ideal) (ix2 p i) = Ideal.sin (angle p i) := by
  unfold val_main_v53 val_main_v50 val_main_v49 val_main_v48 val_main_v47 val_main_v46 val_main_v45 val_main_v44 val_main_v43
    val_main_v42 val_main_v41 val_main_v40 val_main_v39 val_main_v0 val_main_cst_5 val_main_cst_6
  clean_types
  pointwise
  rfl

/-- Each pair of a row and a column of the flat results, as token and head. -/
abbrev sq (r : Fin 16384) : Fin 4 := ⟨r.val / 4096, by omega⟩
abbrev at_ (r : Fin 16384) : Fin 4096 := ⟨r.val % 4096, by omega⟩

theorem tok_at (r : Fin 16384) : tok (sq r) (at_ r) = r := Fin.ext (by simp only [tok, sq, at_]; omega)

/-- One row of the queries or keys: the heads of the projected row, each normed and turned by the row's angles. -/
def heads (o : ℕ) (h : o + 1024 ≤ 3072) (g : (⟨S1x128, .f32⟩ : BufTy).Contents (Elt Ideal)) (r : Fin 16384) (k : Fin 1024) : EReal :=
  head (fun k => x0 (ix2 r k)) (fun k => x1 (ix2 1 k)) (cols x2 o h) (fun e => g (ix2 0 e))
    (cosTab fun i => val_main_v51 (F := Ideal) (ix2 (at_ r) i)) (sinTab fun i => val_main_v53 (F := Ideal) (ix2 (at_ r) i))
    (hd8 k) (el8 k)

/-- One row of the values. -/
def flats (r : Fin 16384) (k : Fin 1024) : EReal :=
  proj (fun k => x0 (ix2 r k)) (fun k => x1 (ix2 1 k)) (cols x2 2048 (by omega)) k

theorem q4_apply (r : Fin 16384) (k : Fin 1024) :
    val_main_v67 x0 x1 x2 x3 (ix4 (sq r) (at_ r) (hd8 k) (el8 k)) = heads x0 x1 x2 0 (by omega) x3 r k := by
  simp only [v67_apply, v38_apply, v20_apply, tok_at]
  rfl

theorem k4_apply (r : Fin 16384) (k : Fin 1024) :
    val_main_v110 x0 x1 x2 x4 (ix4 (sq r) (at_ r) (hd8 k) (el8 k)) = heads x0 x1 x2 1024 (by omega) x4 r k := by
  simp only [v110_apply, v81_apply, v22_apply, tok_at]
  rfl

theorem v4_apply (r : Fin 16384) (k : Fin 1024) :
    val_main_v24 x0 x1 x2 (ix4 (sq r) (at_ r) (hd8 k) (el8 k)) = flats x0 x1 x2 r k := by
  simp only [v24_apply, tok_at, at8_hd_el]
  rfl

theorem v120_apply (r : Fin 16384) (k : Fin 1024) :
    val_main_v120 x0 x1 x2 x3 (ix2 r k) = heads x0 x1 x2 0 (by omega) x3 r k := by
  rw [← q4_apply]
  unfold val_main_v120
  clean_types
  pointwise
  rfl

theorem v121_apply (r : Fin 16384) (k : Fin 1024) :
    val_main_v121 x0 x1 x2 x4 (ix2 r k) = heads x0 x1 x2 1024 (by omega) x4 r k := by
  rw [← k4_apply]
  unfold val_main_v121
  clean_types
  pointwise
  rfl

theorem v122_apply (r : Fin 16384) (k : Fin 1024) :
    val_main_v122 x0 x1 x2 (ix2 r k) = flats x0 x1 x2 r k := by
  rw [← v4_apply]
  unfold val_main_v122
  clean_types
  pointwise
  rfl

/-- Row `r` of block `j`. -/
abbrev inBlock (j : Fin 64) (r : Fin 256) : Fin 16384 := ⟨256 * j.val + r.val, by omega⟩

theorem at_block (j : Fin 64) (r : Fin 256) (k : Fin 1024) (h : Fin 8) (e : Fin 128) (hh : h.val = (hd8 k).val) (he : e.val = (el8 k).val) :
    (ix4 ⟨j.val / 16, by omega⟩ ⟨j.val % 16 * 256 + r.val, by omega⟩ h e : S4x4096x8x128.Idx)
      = ix4 (sq (inBlock j r)) (at_ (inBlock j r)) (hd8 k) (el8 k) := by
  rw [show h = hd8 k from Fin.ext hh, show e = el8 k from Fin.ext he,
    show (⟨j.val / 16, by omega⟩ : Fin 4) = sq (inBlock j r) from Fin.ext (by simp only [sq, inBlock]; omega),
    show (⟨j.val % 16 * 256 + r.val, by omega⟩ : Fin 4096) = at_ (inBlock j r) from Fin.ext (by simp only [at_, inBlock]; omega)]

theorem v124_apply (r : Fin 16384) (k : Fin 1024) :
    val_main_v124 x0 x1 x2 x4 (ix2 r k) = heads x0 x1 x2 1024 (by omega) x4 r k := by
  rw [← v121_apply]
  unfold val_main_v124 val_main_v123 val_main_v121
  clean_types
  pointwise

theorem v125_apply (j : Fin 64) (p : Fin 1152) (r : Fin 256) : val_main_v125 x0 x1 x2 (ix3 j p r)
    = if h : p.val % 144 < 128 then flats x0 x1 x2 (inBlock j r) ⟨128 * (p.val / 144) + p.val % 144, by omega⟩ else 1 := by
  unfold val_main_v125 val_main_v119 val_main_v118 val_main_v117 val_main_v116 val_main_v115 val_main_cst_14
  clean_types
  pointwise
  refine dite_congr rfl (fun h => ?_) fun _ => rfl
  rw [← v4_apply]
  exact congrArg _ (at_block j r _ _ _ (by simp only [hd8]; omega) (by simp only [el8]; omega))

theorem v127_apply (j : Fin 64) (a : Fin 8) (k : Fin 1024) : val_main_v127 x0 x1 x2 x4 (ix3 j a k)
    = Ideal.div (∑ r : Fin 256, heads x0 x1 x2 1024 (by omega) x4 (inBlock j r) k) (Ideal.ofBits FTy.f32 1132462080#32) := by
  unfold val_main_v127 val_main_v126 val_main_v114 val_main_v113 val_main_v112 val_main_v111 val_main_cst_12 val_main_cst_13
  clean_types
  pointwise
  refine congrArg (Ideal.div · _) (Finset.sum_congr rfl fun r _ => ?_)
  rw [← k4_apply]
  exact congrArg _ (at_block j r k _ _ rfl rfl)

end Cert.Reference5Ideal.Row

end
-- ==== Proof.Qkv.lean ====
/- The attention layer's queries, keys and values: the six result arrays are the plain reference's. -/
module

public import proofs.«01_k».proof.Proof.QkvBody
public import proofs.«01_k».proof.Proof.QkvRef
public import Idealize.ShloMosaic.Lib.StableHlo.ReadAt

@[expose] public section

set_option maxRecDepth 16384

noncomputable section

namespace Cert.Kernel5Ideal.Final

open Cert.Kernel5Ideal Cert.Kernel5Ideal.Gen Cert.FfnRow Cert.QkvRow Idealize.ShloMosaic Idealize.ShloMosaic.TcCoe
  Idealize.SL.Sem
open Cert.Reference5Ideal.Row (cols heads flats at_ inBlock)

variable (m : (ℓ : Loc nD τ sig) → Buf (Elt Ideal) ℓ) (c : Dev nD)

/-- The host's preparations, read at an index: slices of the arguments, the format change being the identity. -/
theorem w_norm (k : Fin 1024) :
    V m c main_v20 (ix2 0 k) = m (c, main_arg1) (ix2 1 k) := by
  unfold V
  after_reads_at

theorem w_q (k f : Fin 1024) : V m c main_v23 (ix2 k f) = cols (m (c, main_arg2)) 0 (by omega) k f := by
  unfold V
  after_reads_at
  simp only [cols, Nat.zero_add]

theorem w_k (k f : Fin 1024) : V m c main_v26 (ix2 k f) = cols (m (c, main_arg2)) 1024 (by omega) k f := by
  unfold V
  after_reads_at
  rfl

theorem w_v (k f : Fin 1024) : V m c main_v29 (ix2 k f) = cols (m (c, main_arg2)) 2048 (by omega) k f := by
  unfold V
  after_reads_at
  rfl

theorem w_gq (e : Fin 128) : V m c main_v31 (ix2 0 e) = m (c, main_arg3) (ix2 0 e) := by
  unfold V
  after_reads_at

theorem w_gk (e : Fin 128) : V m c main_v33 (ix2 0 e) = m (c, main_arg4) (ix2 0 e) := by
  unfold V
  after_reads_at

/-- The two tables of the angles: both halves of a head take the same 64 angles. -/
theorem w_cos (p : Fin 4096) (e : Fin 128) :
    V m c main_v15 (ix2 p e) = cosTab (fun i => Cert.Reference5Ideal.Read.val_main_v51 (F := Ideal) (ix2 p i)) e := by
  unfold V
  after_reads_at
  simp only [cosTab, Cert.Reference5Ideal.Row.v51_apply]
  split
  · rename_i h
    rw [show half e = ⟨e.val, h⟩ from Fin.ext (by simp only [half]; omega)]
    rfl
  · rename_i h
    rw [show half e = ⟨e.val - 64, by omega⟩ from Fin.ext (by simp only [half]; omega)]
    rfl

theorem w_sin (p : Fin 4096) (e : Fin 128) :
    V m c main_v17 (ix2 p e) = sinTab (fun i => Cert.Reference5Ideal.Read.val_main_v53 (F := Ideal) (ix2 p i)) e := by
  unfold V
  after_reads_at
  simp only [sinTab, Cert.Reference5Ideal.Row.v53_apply]
  split
  · rename_i h
    rw [show half e = ⟨e.val, h⟩ from Fin.ext (by simp only [half]; omega)]
    rfl
  · rename_i h
    rw [show half e = ⟨e.val - 64, by omega⟩ from Fin.ext (by simp only [half]; omega)]
    rfl

/-- Row `r` of the point's rows, and block `j` of its two blocks. -/
abbrev row (t : Fin cfg0.N) (r : Fin 512) : Fin 16384 :=
  ⟨t.val * 512 + r.val, by have := t.isLt; have : cfg0.N = 32 := rfl; omega⟩
abbrev blk (t : Fin cfg0.N) (j : Fin 2) : Fin 64 :=
  ⟨t.val * 2 + j.val, by have := t.isLt; have : cfg0.N = 32 := rfl; omega⟩

theorem row_block (t : Fin cfg0.N) (j : Fin 2) (r : Fin 256) : row t (Body.row j r) = inBlock (blk t j) r :=
  Fin.ext (by simp only [row, Body.row, inBlock, blk]; omega)

/-- Where the windows stand at a grid point: row block `t`, or the whole table; the angles start over with every sequence. -/
theorem idx (t : Fin cfg0.N) : win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val % 8, 0] ∧ win0_8.index t = ![t.val % 8, 0] ∧ win0_9.index t = ![t.val, 0]
    ∧ win0_10.index t = ![t.val, 0] ∧ win0_11.index t = ![t.val, 0] ∧ win0_12.index t = ![t.val, 0]
    ∧ win0_13.index t = ![t.val, 0, 0] ∧ win0_14.index t = ![t.val, 0, 0] := by
  revert t
  decide +kernel

/-- The blocks each grid point reads. -/
theorem blk0 (t : Fin cfg0.N) (r : Fin 512) (k : Fin 1024) :
    iblk m c 0 t (ix2 r k) = m (c, main_arg0) (ix2 (row t r) k) := by
  blk_ext [iblk, V, idx t]

theorem blk1 (t : Fin cfg0.N) (k : Fin 1024) : iblk m c 1 t (ix2 0 k) = m (c, main_arg1) (ix2 1 k) := by
  refine Eq.trans ?_ (w_norm m c _)
  blk_ext [iblk, idx t]

theorem blk2 (t : Fin cfg0.N) (k f : Fin 1024) : iblk m c 2 t (ix2 k f) = cols (m (c, main_arg2)) 0 (by omega) k f := by
  refine Eq.trans ?_ (w_q m c _ _)
  blk_ext [iblk, idx t]

theorem blk3 (t : Fin cfg0.N) (k f : Fin 1024) : iblk m c 3 t (ix2 k f) = cols (m (c, main_arg2)) 1024 (by omega) k f := by
  refine Eq.trans ?_ (w_k m c _ _)
  blk_ext [iblk, idx t]

theorem blk4 (t : Fin cfg0.N) (k f : Fin 1024) : iblk m c 4 t (ix2 k f) = cols (m (c, main_arg2)) 2048 (by omega) k f := by
  refine Eq.trans ?_ (w_v m c _ _)
  blk_ext [iblk, idx t]

theorem blk5 (t : Fin cfg0.N) (e : Fin 128) : iblk m c 5 t (ix2 0 e) = m (c, main_arg3) (ix2 0 e) := by
  refine Eq.trans ?_ (w_gq m c _)
  blk_ext [iblk, idx t]

theorem blk6 (t : Fin cfg0.N) (e : Fin 128) : iblk m c 6 t (ix2 0 e) = m (c, main_arg4) (ix2 0 e) := by
  refine Eq.trans ?_ (w_gk m c _)
  blk_ext [iblk, idx t]

theorem blk7 (t : Fin cfg0.N) (r : Fin 512) (e : Fin 128) : iblk m c 7 t (ix2 r e)
    = cosTab (fun i => Cert.Reference5Ideal.Read.val_main_v51 (F := Ideal) (ix2 (at_ (row t r)) i)) e := by
  refine Eq.trans ?_ (w_cos m c _ _)
  blk_ext [iblk, idx t]

theorem blk8 (t : Fin cfg0.N) (r : Fin 512) (e : Fin 128) : iblk m c 8 t (ix2 r e)
    = sinTab (fun i => Cert.Reference5Ideal.Read.val_main_v53 (F := Ideal) (ix2 (at_ (row t r)) i)) e := by
  refine Eq.trans ?_ (w_sin m c _ _)
  blk_ext [iblk, idx t]

/-- A point's queries, keys and values are the reference's at its rows. -/
theorem spun_q (t : Fin cfg0.N) (r : Fin 512) (k : Fin 1024) :
    Body.spun (iblk m c 0 t) (iblk m c 1 t) (iblk m c 2 t) (iblk m c 5 t) (iblk m c 7 t) (iblk m c 8 t) r k
      = heads (m (c, main_arg0)) (m (c, main_arg1)) (m (c, main_arg2)) 0 (by omega) (m (c, main_arg3)) (row t r) k := by
  unfold Body.spun heads
  simp only [blk0, blk1, blk2, blk5, blk7, blk8]

theorem spun_k (t : Fin cfg0.N) (r : Fin 512) (k : Fin 1024) :
    Body.spun (iblk m c 0 t) (iblk m c 1 t) (iblk m c 3 t) (iblk m c 6 t) (iblk m c 7 t) (iblk m c 8 t) r k
      = heads (m (c, main_arg0)) (m (c, main_arg1)) (m (c, main_arg2)) 1024 (by omega) (m (c, main_arg4)) (row t r) k := by
  unfold Body.spun heads
  simp only [blk0, blk1, blk3, blk6, blk7, blk8]

theorem vals_v (t : Fin cfg0.N) (r : Fin 512) (k : Fin 1024) :
    Body.vals (iblk m c 0 t) (iblk m c 1 t) (iblk m c 4 t) r k
      = flats (m (c, main_arg0)) (m (c, main_arg1)) (m (c, main_arg2)) (row t r) k := by
  unfold Body.vals flats
  simp only [blk0, blk1, blk4]

theorem final9 : (dats m 0 c).arrAt 9 cfg0.N = Cert.Reference5Ideal.Read.val_main_v120 (F := Ideal) (m (c, main_arg0)) (m (c, main_arg1)) (m (c, main_arg2)) (m (c, main_arg3)) := by
  refine (dats m 0 c).arrAt_eq_of_covers 9 _ (by decide +kernel) fun t hf y => ?_
  rw [after0_9]
  idx_vars y
  blk_simp
  have e : ((cfg0.win 9).blk t).view.emb (ix2 y0 y1) = ix2 (row t y0) y1 := by
    blk_ext [idx t]
  erw [e]
  rw [Cert.Reference5Ideal.Row.v120_apply, Body.q_apply, spun_q]

theorem final10 : (dats m 0 c).arrAt 10 cfg0.N = Cert.Reference5Ideal.Read.val_main_v121 (F := Ideal) (m (c, main_arg0)) (m (c, main_arg1)) (m (c, main_arg2)) (m (c, main_arg4)) := by
  refine (dats m 0 c).arrAt_eq_of_covers 10 _ (by decide +kernel) fun t hf y => ?_
  rw [after0_10]
  idx_vars y
  blk_simp
  have e : ((cfg0.win 10).blk t).view.emb (ix2 y0 y1) = ix2 (row t y0) y1 := by
    blk_ext [idx t]
  erw [e]
  rw [Cert.Reference5Ideal.Row.v121_apply, Body.k_apply, spun_k]

theorem final11 : (dats m 0 c).arrAt 11 cfg0.N = Cert.Reference5Ideal.Read.val_main_v122 (F := Ideal) (m (c, main_arg0)) (m (c, main_arg1)) (m (c, main_arg2)) := by
  refine (dats m 0 c).arrAt_eq_of_covers 11 _ (by decide +kernel) fun t hf y => ?_
  rw [after0_11]
  idx_vars y
  blk_simp
  have e : ((cfg0.win 11).blk t).view.emb (ix2 y0 y1) = ix2 (row t y0) y1 := by
    blk_ext [idx t]
  erw [e]
  rw [Cert.Reference5Ideal.Row.v122_apply, Body.v_apply, vals_v]

theorem final12 : (dats m 0 c).arrAt 12 cfg0.N = Cert.Reference5Ideal.Read.val_main_v124 (F := Ideal) (m (c, main_arg0)) (m (c, main_arg1)) (m (c, main_arg2)) (m (c, main_arg4)) := by
  refine (dats m 0 c).arrAt_eq_of_covers 12 _ (by decide +kernel) fun t hf y => ?_
  rw [after0_12]
  idx_vars y
  blk_simp
  have e : ((cfg0.win 12).blk t).view.emb (ix2 y0 y1) = ix2 (row t y0) y1 := by
    blk_ext [idx t]
  erw [e]
  rw [Cert.Reference5Ideal.Row.v124_apply, Body.kb_apply, spun_k]

theorem final13 : (dats m 0 c).arrAt 13 cfg0.N = Cert.Reference5Ideal.Read.val_main_v125 (F := Ideal) (m (c, main_arg0)) (m (c, main_arg1)) (m (c, main_arg2)) := by
  refine (dats m 0 c).arrAt_eq_of_covers 13 _ (by decide +kernel) fun t hf y => ?_
  rw [after0_13]
  idx_vars y
  blk_simp
  have e : ((cfg0.win 13).blk t).view.emb (ix3 y0 y1 y2) = ix3 (blk t y0) y1 y2 := by
    blk_ext [idx t]
  erw [e]
  rw [Cert.Reference5Ideal.Row.v125_apply, Body.vt_apply]
  unfold Body.valsT
  simp only [vals_v, row_block]

theorem final14 : (dats m 0 c).arrAt 14 cfg0.N = Cert.Reference5Ideal.Read.val_main_v127 (F := Ideal) (m (c, main_arg0)) (m (c, main_arg1)) (m (c, main_arg2)) (m (c, main_arg4)) := by
  refine (dats m 0 c).arrAt_eq_of_covers 14 _ (by decide +kernel) fun t hf y => ?_
  rw [after0_14]
  idx_vars y
  blk_simp
  have e : ((cfg0.win 14).blk t).view.emb (ix3 y0 y1 y2) = ix3 (blk t y0) y1 y2 := by
    blk_ext [idx t]
  erw [e]
  rw [Cert.Reference5Ideal.Row.v127_apply, Body.km_apply]
  unfold Body.meanKey
  simp only [spun_k, row_block]

/-- The projection's whole run: its results are the reference's, its arguments are kept. -/
theorem run (ρ : Dev nD → PrngReg) : θ_run defs (onTc (τ := τ) (main (F := Ideal))) ⟨m, fun _ => 0, ρ⟩ fun r => ∀ c : Dev nD,
    r.2.mem ((c : Thread nD τ).loc main_v34_0) = Cert.Reference5Ideal.Read.val_main_v120 (F := Ideal) (m (c, main_arg0)) (m (c, main_arg1)) (m (c, main_arg2)) (m (c, main_arg3))
    ∧ r.2.mem ((c : Thread nD τ).loc main_v34_1) = Cert.Reference5Ideal.Read.val_main_v121 (F := Ideal) (m (c, main_arg0)) (m (c, main_arg1)) (m (c, main_arg2)) (m (c, main_arg4))
    ∧ r.2.mem ((c : Thread nD τ).loc main_v34_2) = Cert.Reference5Ideal.Read.val_main_v122 (F := Ideal) (m (c, main_arg0)) (m (c, main_arg1)) (m (c, main_arg2))
    ∧ r.2.mem ((c : Thread nD τ).loc main_v34_3) = Cert.Reference5Ideal.Read.val_main_v124 (F := Ideal) (m (c, main_arg0)) (m (c, main_arg1)) (m (c, main_arg2)) (m (c, main_arg4))
    ∧ r.2.mem ((c : Thread nD τ).loc main_v34_4) = Cert.Reference5Ideal.Read.val_main_v125 (F := Ideal) (m (c, main_arg0)) (m (c, main_arg1)) (m (c, main_arg2))
    ∧ r.2.mem ((c : Thread nD τ).loc main_v34_5) = Cert.Reference5Ideal.Read.val_main_v127 (F := Ideal) (m (c, main_arg0)) (m (c, main_arg1)) (m (c, main_arg2)) (m (c, main_arg4))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) := by
  refine (θ_run defs _ _).mono (fun r h c => ?_) (Cert.Kernel5Ideal.Value.run_blocks m ρ)
  rw [← final9, ← final10, ← final11, ← final12, ← final13, ← final14]
  exact h c

end Cert.Kernel5Ideal.Final

end
-- ==== Proof.QkvSampleBody.lean ====
/- What one grid point of the attention layer's projection leaves in its three blocks, on the sample's rows. -/
module

public import proofs.«01_k».proof.Proof.Gen.Kernel6Ideal.Value
public import proofs.«01_k».proof.Proof.QkvRow
public import Idealize.ShloMosaic.Lib.Pointwise
public import Idealize.ShloMosaic.Lib.KernelVsHost
public import Idealize.ShloMosaic.Lib.Pipeline.ReadBack
public import Idealize.ShloMosaic.Lib.Pipeline.ValueKit

@[expose] public section

set_option maxRecDepth 16384

noncomputable section

namespace Cert.Kernel6Ideal.Body

open Cert.Kernel6Ideal Cert.Kernel6Ideal.Gen Cert.FfnRow Cert.QkvRow Idealize.ShloMosaic Idealize.ShloMosaic.TcCoe Idealize.SL.Sem

/-! ## One tile, from the vectors loaded for it -/

/-- Which of a chunk's two heads. -/
theorem side : ∀ i : Fin 2, S256x256.Slices ![0, 128 * i.val] S256x128 := by decide

variable (v0 : Vec Ideal S256x1024 .f32) (v1 : Vec Ideal S1x1024 .f32) (L : Vec Ideal S1024x256 .bf16) (g : Vec Ideal S1x128 .f32)
  (cs sn : Vec Ideal S256x128 .f32) (i : Fin 2)

/-- The normalised rows times a chunk of 256 columns. -/
def lin : FVec Ideal S256x256 .f32 :=
  matmul dot_S256x1024_S1024x256_S256x256_1_0_0_1_n_n none (k0_pay5 v0 v1)
    (shapeCast S1024x256 L shapeCasts_S1024x256_S1024x256 : FVec Ideal S1024x256 .bf16) (constant S256x256 .f32 0x00000000#32)

/-- One head of a tile, normalised. -/
def nrm (x : FVec Ideal S256x128 .f32) : FVec Ideal S256x128 .f32 :=
  mulf (mulf x (broadcastTo S256x128 (rsqrt (addf (divf (shapeCast S256x1 (multiReduction .add [1] S256 (mulf x x) 0x00000000#32 reduces_S256x128_S256 (.inl rfl) rfl) shapeCasts_S256_S256x1)
    (broadcast S256x1 (Scalar.ofBits .f32 0x43000000#32))) (broadcast S256x1 (Scalar.ofBits .f32 0x358637BD#32)))) broadcasts_S256x1_S256x128))
    (broadcastTo S256x128 (shapeCast S1x128 g shapeCasts_S1x128_S1x128) broadcasts_S1x128_S256x128)

/-- One head of a tile, normalised and rotated. -/
def tile : FVec Ideal S256x128 .f32 :=
  addf (mulf (nrm g (extractStridedSlice S256x128 ![0, 128 * i.val] (lin v0 v1 L) (side i)))
      (shapeCast S256x128 cs shapeCasts_S256x128_S256x128))
    (mulf (dynamicRotate 1 64#32 none (nrm g (extractStridedSlice S256x128 ![0, 128 * i.val] (lin v0 v1 L) (side i))) rotates_S256x128_d1)
      (shapeCast S256x128 sn shapeCasts_S256x128_S256x128))

abbrev col (e : Fin 128) : Fin 256 := ⟨128 * i.val + e.val, by omega⟩

theorem pay5_apply (r : Fin 256) (k : Fin 1024) :
    k0_pay5 v0 v1 (ix2 r k) = normed (fun k => v0 (ix2 r k)) (fun k => v1 (ix2 0 k)) k := by
  pointwise [k0_pay5]
  rfl

theorem lin_apply (r e : Fin 256) : lin v0 v1 L (ix2 r e)
    = ∑ k, normed (fun k => v0 (ix2 r k)) (fun k => v1 (ix2 0 k)) k * L (ix2 k e) := by
  unfold lin
  pointwise
  simp only [pay5_apply]

theorem nrm_apply (x : FVec Ideal S256x128 .f32) (r : Fin 256) (e : Fin 128) : nrm g x (ix2 r e)
    = headNorm (fun e => x (ix2 r e)) (fun e => g (ix2 0 e)) e := by
  unfold nrm
  pointwise
  rfl

theorem tile_apply (r : Fin 256) (e : Fin 128) : tile v0 v1 L g cs sn i (ix2 r e)
    = spin (headNorm (fun e => ∑ k, normed (fun k => v0 (ix2 r k)) (fun k => v1 (ix2 0 k)) k * L (ix2 k (col i e))) (fun e => g (ix2 0 e)))
        (fun e => cs (ix2 r e)) (fun e => sn (ix2 r e)) e := by
  unfold tile
  pointwise
  simp only [nrm_apply]
  pointwise
  simp only [lin_apply]
  rfl

/-! ## The blocks the point leaves, index by index -/

variable (x : Vec Ideal S256x1024 .f32) (g1 : Vec Ideal S1x1024 .f32) (w : Vec Ideal S1024x1024 .bf16) (gh : Vec Ideal S1x128 .f32)
  (cos sin : Vec Ideal S256x128 .f32)

/-- The queries or keys of row `r`, column `k`. -/
def spun (r : Fin 256) (k : Fin 1024) : EReal :=
  head (fun k => x (ix2 r k)) (fun k => g1 (ix2 0 k)) (fun k c => w (ix2 k c)) (fun e => gh (ix2 0 e))
    (fun e => cos (ix2 r e)) (fun e => sin (ix2 r e)) (hd8 k) (el8 k)

/-- The values of row `r`, column `k`. -/
def vals (r : Fin 256) (k : Fin 1024) : EReal :=
  proj (fun k => x (ix2 r k)) (fun k => g1 (ix2 0 k)) (fun k c => w (ix2 k c)) k

theorem colsIn : ∀ (q : Fin 4) (a : Fin 2), ![0, 256 * q.val] a + S1024x256.size a ≤ S1024x1024.size a := by decide

/-- A chunk of 256 columns of a table. -/
abbrev chunk (q : Fin 4) : Rect S1024x1024 := Rect.unit ![0, 256 * q.val] S1024x256.size (colsIn q)

/-- The chunk that holds head `h`, and the side of the chunk that does. -/
abbrev cq (h : Fin 8) : Fin 4 := ⟨h.val / 2, by omega⟩
abbrev cs2 (h : Fin 8) : Fin 2 := ⟨h.val % 2, by omega⟩

theorem lin_chunk (q : Fin 4) (r e : Fin 256) :
    lin x g1 (View.ld w (chunk q)) (ix2 r e) = vals x g1 w r ⟨256 * q.val + e.val, by omega⟩ := by
  rw [lin_apply]
  unfold vals proj
  refine Finset.sum_congr rfl fun k _ => congrArg _ ?_
  exact View.ld_unit_apply_of w _ _ _ _ _ fun a => by fin_cases a <;> simp

theorem tile_chunk (h : Fin 8) (r : Fin 256) (e : Fin 128) :
    tile x g1 (View.ld w (chunk (cq h))) gh cos sin (cs2 h) (ix2 r e) = spun x g1 w gh cos sin r (at8 h e) := by
  rw [tile_apply]
  have hh : hd8 (at8 h e) = h := Fin.ext (by simp only [hd8, at8]; omega)
  have he : el8 (at8 h e) = e := Fin.ext (by simp only [el8, at8]; omega)
  unfold spun head
  rw [hh, he]
  refine congrArg (fun f => spin (headNorm f fun e => gh (ix2 0 e)) _ _ e) (funext fun e => ?_)
  rw [← lin_apply, lin_chunk]
  exact congrArg (vals x g1 w r) (Fin.ext (by simp only [at8]; omega))

/-! ## The pieces the run stores, as families -/

/-- A load of the whole block. -/
theorem whole {s : Shape} {e : EltTy} (x : Vec Ideal s e) {off : Fin s.rank → ℕ} (inb : ∀ a, off a + s.size a ≤ s.size a) (h : ∀ a, off a = 0) :
    View.ld (Val := Elt Ideal) x (Rect.unit off s.size inb) = x := View.ld_unit_lit inb x h

theorem tileIn : ∀ (h : Fin 8) (a : Fin 2), ![0, 128 * h.val] a + S256x128.size a ≤ S256x1024.size a := by decide
theorem vIn : ∀ (q : Fin 4) (a : Fin 2), ![0, 256 * q.val] a + S256x256.size a ≤ S256x1024.size a := by decide

/-- The head of the `k`-th of 8 pieces and the chunk of the `k`-th of 4, the last stored first. -/
abbrev ph (k : Fin 8) : Fin 8 := ⟨7 - k.val, by omega⟩
abbrev pq (k : Fin 4) : Fin 4 := ⟨3 - k.val, by omega⟩

/-- A buffer of pieces that are blocks of one function is that function, where they reach. -/
theorem canon_family {s : Shape} {e : EltTy} {N : ℕ} (P : Fin N → View.Piece (Elt Ideal) s e) (G : s.Idx → Elt Ideal e)
    (h : ∀ k x, (P k).2 x = G ((P k).1.emb x)) (y : s.Idx) (hc : ∃ k, y ∈ (P k).1.set) :
    View.canon (List.ofFn P) y = G y :=
  View.canon_ofFn_eq_of_forall (fun k => (P k).1) (fun k => (P k).2) y (G y) hc fun k x hx => (h k x).trans (congrArg G hx)

/-- A tile's worth of a head, out of the whole blocks. -/
def headTile (h : Fin 8) : FVec Ideal S256x128 .f32 :=
  tile (View.ld x r0_0) (View.ld g1 r0_1) (View.ld w (chunk (cq h))) (View.ld gh r0_4) (View.ld cos r0_2) (View.ld sin r0_2) (cs2 h)

theorem headTile_apply (h : Fin 8) (r : Fin 256) (e : Fin 128) :
    headTile x g1 w gh cos sin h (ix2 r e) = spun x g1 w gh cos sin r (at8 h e) := by
  rw [← tile_chunk]
  unfold headTile
  rw [whole _ _ (by decide), whole _ _ (by decide), whole _ _ (by decide), whole _ _ (by decide), whole _ _ (by decide)]

def headPiece (k : Fin 8) : View.Piece (Elt Ideal) S256x1024 .f32 :=
  ⟨Rect.unit ![0, 128 * (ph k).val] S256x128.size (tileIn (ph k)), headTile x g1 w gh cos sin (ph k)⟩

theorem emb_tile (h : Fin 8) (r : Fin 256) (e : Fin 128) :
    (Rect.unit (s := S256x1024) ![0, 128 * h.val] S256x128.size (tileIn h)).emb (ix2 r e) = ix2 r (at8 h e) := by
  blk_ext [at8]

theorem headPiece_apply (k : Fin 8) : ∀ y, (headPiece x g1 w gh cos sin k).2 y
    = (fun y : S256x1024.Idx => spun x g1 w gh cos sin (y 0) (y 1)) ((headPiece x g1 w gh cos sin k).1.emb y) := by
  show ∀ y : S256x128.Idx, headTile x g1 w gh cos sin (ph k) y = (fun y : S256x1024.Idx => spun x g1 w gh cos sin (y 0) (y 1))
    ((Rect.unit (s := S256x1024) ![0, 128 * (ph k).val] S256x128.size (tileIn (ph k))).emb y)
  generalize ph k = h
  intro y
  idx_vars y
  rw [emb_tile, headTile_apply]
  rfl

/-- Every place of the buffer is in some head's tile. -/
theorem head_covers (r : Fin 256) (c : Fin 1024) : ∃ k, (ix2 r c : S256x1024.Idx) ∈ (headPiece x g1 w gh cos sin k).1.set := by
  refine ⟨⟨7 - c.val / 128, by omega⟩, ?_⟩
  show (ix2 r c : S256x1024.Idx) ∈ (Rect.unit (s := S256x1024) ![0, 128 * (7 - (7 - c.val / 128))] S256x128.size (tileIn ⟨7 - (7 - c.val / 128), by omega⟩)).set
  rw [Rect.mem_set_unit]
  intro a
  fin_cases a
  · exact ⟨Nat.zero_le _, by show r.val < 0 + 256; omega⟩
  · exact ⟨by show 128 * (7 - (7 - c.val / 128)) ≤ c.val; omega, by show c.val < 128 * (7 - (7 - c.val / 128)) + 128; omega⟩

theorem heads_apply (r : Fin 256) (c : Fin 1024) :
    View.canon (List.ofFn (headPiece x g1 w gh cos sin)) (ix2 r c) = spun x g1 w gh cos sin r c :=
  canon_family _ (fun y : S256x1024.Idx => spun x g1 w gh cos sin (y 0) (y 1)) (headPiece_apply x g1 w gh cos sin) _ (head_covers x g1 w gh cos sin r c)

variable (wq wk wv : Vec Ideal S1024x1024 .bf16) (gq gk : Vec Ideal S1x128 .f32)

theorem q_apply (r : Fin 256) (c : Fin 1024) :
    out0_9 (F := Ideal) x g1 wq wk wv gq gk cos sin (ix2 r c) = spun x g1 wq gq cos sin r c := by
  rw [← heads_apply]
  rfl

theorem k_apply (r : Fin 256) (c : Fin 1024) :
    out0_10 (F := Ideal) x g1 wq wk wv gq gk cos sin (ix2 r c) = spun x g1 wk gk cos sin r c := by
  rw [← heads_apply]
  rfl

/-- A tile of the values. -/
def vTile (q : Fin 4) : S256x256.Idx → Elt Ideal .f32 := lin (View.ld x r0_0) (View.ld g1 r0_1) (View.ld w (chunk q))

theorem vTile_apply (q : Fin 4) (r e : Fin 256) :
    vTile x g1 w q (ix2 r e) = vals x g1 w r ⟨256 * q.val + e.val, by omega⟩ := by
  rw [← lin_chunk]
  unfold vTile
  rw [whole _ _ (by decide), whole _ _ (by decide)]

def vPiece (k : Fin 4) : View.Piece (Elt Ideal) S256x1024 .f32 :=
  ⟨Rect.unit ![0, 256 * (pq k).val] S256x256.size (vIn (pq k)), vTile x g1 w (pq k)⟩

theorem emb_v (q : Fin 4) (r e : Fin 256) :
    (Rect.unit (s := S256x1024) ![0, 256 * q.val] S256x256.size (vIn q)).emb (ix2 r e) = ix2 r ⟨256 * q.val + e.val, by omega⟩ := by
  blk_ext []

theorem vPiece_apply (k : Fin 4) : ∀ y, (vPiece x g1 w k).2 y
    = (fun y : S256x1024.Idx => vals x g1 w (y 0) (y 1)) ((vPiece x g1 w k).1.emb y) := by
  show ∀ y : S256x256.Idx, vTile x g1 w (pq k) y = (fun y : S256x1024.Idx => vals x g1 w (y 0) (y 1))
    ((Rect.unit (s := S256x1024) ![0, 256 * (pq k).val] S256x256.size (vIn (pq k))).emb y)
  generalize pq k = q
  intro y
  idx_vars y
  rw [emb_v, vTile_apply]
  rfl

theorem v_covers (r : Fin 256) (c : Fin 1024) : ∃ k, (ix2 r c : S256x1024.Idx) ∈ (vPiece x g1 w k).1.set := by
  refine ⟨⟨3 - c.val / 256, by omega⟩, ?_⟩
  show (ix2 r c : S256x1024.Idx) ∈ (Rect.unit (s := S256x1024) ![0, 256 * (3 - (3 - c.val / 256))] S256x256.size (vIn ⟨3 - (3 - c.val / 256), by omega⟩)).set
  rw [Rect.mem_set_unit]
  intro a
  fin_cases a
  · exact ⟨Nat.zero_le _, by show r.val < 0 + 256; omega⟩
  · exact ⟨by show 256 * (3 - (3 - c.val / 256)) ≤ c.val; omega, by show c.val < 256 * (3 - (3 - c.val / 256)) + 256; omega⟩

theorem v_apply (r : Fin 256) (c : Fin 1024) :
    out0_11 (F := Ideal) x g1 wq wk wv gq gk cos sin (ix2 r c) = vals x g1 wv r c := by
  refine Eq.trans ?_ (canon_family (vPiece x g1 wv) (fun y : S256x1024.Idx => vals x g1 wv (y 0) (y 1)) (vPiece_apply x g1 wv) _ (v_covers x g1 wv r c))
  rfl

end Cert.Kernel6Ideal.Body

end
-- ==== Proof.QkvSampleRef.lean ====
/- The plain reference of the attention layer's queries, keys and values of the sample's tokens, read at an index. -/
module

public import proofs.«01_k».proof.Proof.Gen.Reference6Ideal.Read
public import proofs.«01_k».proof.Proof.QkvRow
public import Idealize.ShloMosaic.Lib.Pointwise
public import Idealize.ShloMosaic.Lib.Tactic.CleanTypes

@[expose] public section

set_option maxRecDepth 16384

noncomputable section

namespace Cert.Reference6Ideal.Row

open Cert.Reference6Ideal Cert.Reference6Ideal.Gen Cert.Reference6Ideal.Read Cert.FfnRow Cert.QkvRow Idealize.ShloMosaic
  Idealize.ShloMosaic.TcCoe Idealize.SL.Sem

variable (x0 : (⟨S512x1024, .f32⟩ : BufTy).Contents (Elt Ideal)) (x1 : (⟨S2x1024, .f32⟩ : BufTy).Contents (Elt Ideal))
  (x2 : (⟨S1x1024x3072, .f32⟩ : BufTy).Contents (Elt Ideal)) (x3 x4 : (⟨S1x128, .f32⟩ : BufTy).Contents (Elt Ideal))

theorem v17_apply (r : Fin 512) (c : Fin 1024) :
    val_main_v17 x0 x1 (ix2 r c) = normed (fun k => x0 (ix2 r k)) (fun k => x1 (ix2 1 k)) c := by
  unfold val_main_v17 val_main_v16 val_main_v15 val_main_v14 val_main_v13 val_main_v12 val_main_v11 val_main_v10 val_main_v9
    val_main_v8 val_main_v7 val_main_v6 val_main_v5 val_main_v4 val_main_v3 val_main_cst val_main_cst_0 val_main_cst_1
  clean_types
  pointwise
  rfl

theorem v19_apply (r : Fin 512) (c : Fin 3072) : val_main_v19 x0 x1 x2 (ix2 r c)
    = proj (fun k => x0 (ix2 r k)) (fun k => x1 (ix2 1 k)) (fun k c => x2 (ix3 0 k c)) c := by
  unfold val_main_v19 val_main_v18
  clean_types
  pointwise
  simp only [v17_apply]
  rfl

/-- The 1024 columns of the table from column `o` on. -/
def cols (o : ℕ) (h : o + 1024 ≤ 3072) (k c : Fin 1024) : EReal := x2 (ix3 0 k ⟨o + c.val, by omega⟩)

/-- Token `p` of sequence `b`. -/
abbrev tok (b : Fin 128) (p : Fin 4) : Fin 512 := ⟨4 * b.val + p.val, by omega⟩

/-- A column of the product with the whole table is a column of the product with 1024 of its columns. -/
theorem sum_cols (o : ℕ) (h : o + 1024 ≤ 3072) (x g : Fin 1024 → EReal) (c : Fin 3072) (c' : Fin 1024)
    (e : c.val = o + c'.val) : proj x g (fun k c => x2 (ix3 0 k c)) c = proj x g (cols x2 o h) c' := by
  rw [show c = ⟨o + c'.val, by omega⟩ from Fin.ext e]
  rfl

theorem v22_apply (b : Fin 128) (p : Fin 4) (h : Fin 8) (e : Fin 128) : val_main_v22 x0 x1 x2 (ix4 b p h e)
    = proj (fun k => x0 (ix2 (tok b p) k)) (fun k => x1 (ix2 1 k)) (cols x2 0 (by omega)) (at8 h e) := by
  unfold val_main_v22 val_main_v21 val_main_v20
  clean_types
  pointwise
  rw [show (⟨b.val * 4 + p.val, by omega⟩ : Fin 512) = tok b p from Fin.ext (by simp only; omega), v19_apply]
  exact sum_cols x2 0 (by omega) _ _ _ _ (by simp only [at8]; omega)

theorem v24_apply (b : Fin 128) (p : Fin 4) (h : Fin 8) (e : Fin 128) : val_main_v24 x0 x1 x2 (ix4 b p h e)
    = proj (fun k => x0 (ix2 (tok b p) k)) (fun k => x1 (ix2 1 k)) (cols x2 1024 (by omega)) (at8 h e) := by
  unfold val_main_v24 val_main_v23 val_main_v20
  clean_types
  pointwise
  rw [show (⟨b.val * 4 + p.val, by omega⟩ : Fin 512) = tok b p from Fin.ext (by simp only; omega), v19_apply]
  exact sum_cols x2 1024 (by omega) _ _ _ _ (by simp only [at8]; omega)

theorem v26_apply (b : Fin 128) (p : Fin 4) (h : Fin 8) (e : Fin 128) : val_main_v26 x0 x1 x2 (ix4 b p h e)
    = proj (fun k => x0 (ix2 (tok b p) k)) (fun k => x1 (ix2 1 k)) (cols x2 2048 (by omega)) (at8 h e) := by
  unfold val_main_v26 val_main_v25 val_main_v20
  clean_types
  pointwise
  rw [show (⟨b.val * 4 + p.val, by omega⟩ : Fin 512) = tok b p from Fin.ext (by simp only; omega), v19_apply]
  exact sum_cols x2 2048 (by omega) _ _ _ _ (by simp only [at8]; omega)

theorem v40_apply (b : Fin 128) (p : Fin 4) (h : Fin 8) (e : Fin 128) : val_main_v40 x0 x1 x2 x3 (ix4 b p h e)
    = headNorm (fun e => val_main_v22 x0 x1 x2 (ix4 b p h e)) (fun e => x3 (ix2 0 e)) e := by
  unfold val_main_v40 val_main_v39 val_main_v38 val_main_v37 val_main_v36 val_main_v35 val_main_v34 val_main_v33 val_main_v32
    val_main_v31 val_main_v30 val_main_v29 val_main_v28 val_main_v27 val_main_cst_2 val_main_cst_3 val_main_cst_4
  clean_types
  pointwise
  rfl

theorem v69_apply (b : Fin 128) (p : Fin 4) (h : Fin 8) (e : Fin 128) : val_main_v69 x0 x1 x2 x3 (ix4 b p h e)
    = spin (fun e => val_main_v40 x0 x1 x2 x3 (ix4 b p h e)) (cosTab fun i => val_main_v53 (F := Ideal) (ix2 p i))
        (sinTab fun i => val_main_v55 (F := Ideal) (ix2 p i)) e := by
  rw [spin_eq]
  unfold val_main_v69 val_main_v68 val_main_v67 val_main_v66 val_main_v65 val_main_v64 val_main_v63 val_main_v62
    val_main_v61 val_main_v60 val_main_v59 val_main_v58 val_main_v57 val_main_v56 val_main_v54
  clean_types
  pointwise
  refine dite_congr rfl (fun _ => rfl) fun h' => ?_
  rw [show (⟨64 + (e.val - 64), by omega⟩ : Fin 128) = e from Fin.ext (by simp only; omega)]

theorem v83_apply (b : Fin 128) (p : Fin 4) (h : Fin 8) (e : Fin 128) : val_main_v83 x0 x1 x2 x4 (ix4 b p h e)
    = headNorm (fun e => val_main_v24 x0 x1 x2 (ix4 b p h e)) (fun e => x4 (ix2 0 e)) e := by
  unfold val_main_v83 val_main_v82 val_main_v81 val_main_v80 val_main_v79 val_main_v78 val_main_v77 val_main_v76 val_main_v75
    val_main_v74 val_main_v73 val_main_v72 val_main_v71 val_main_v70 val_main_cst_7 val_main_cst_8 val_main_cst_9
  clean_types
  pointwise
  rfl

theorem v112_apply (b : Fin 128) (p : Fin 4) (h : Fin 8) (e : Fin 128) : val_main_v112 x0 x1 x2 x4 (ix4 b p h e)
    = spin (fun e => val_main_v83 x0 x1 x2 x4 (ix4 b p h e)) (cosTab fun i => val_main_v96 (F := Ideal) (ix2 p i))
        (sinTab fun i => val_main_v98 (F := Ideal) (ix2 p i)) e := by
  rw [spin_eq]
  unfold val_main_v112 val_main_v111 val_main_v110 val_main_v109 val_main_v108 val_main_v107 val_main_v106 val_main_v105
    val_main_v104 val_main_v103 val_main_v102 val_main_v101 val_main_v100 val_main_v99 val_main_v97
  clean_types
  pointwise
  refine dite_congr rfl (fun _ => rfl) fun h' => ?_
  rw [show (⟨64 + (e.val - 64), by omega⟩ : Fin 128) = e from Fin.ext (by simp only; omega)]

/-- Angle `i` of the sample's token `p`: the tokens before it are 2048. -/
def angle (p : Fin 4) (i : Fin 64) : EReal :=
  (FloatOps.sitofp FTy.f32 (2048#32 + BitVec.ofNat 32 p.val) : Ideal .f32) * Ideal.pow (Ideal.ofBits FTy.f32 1176256512#32)
    (Ideal.div (-(FloatOps.sitofp FTy.f32 (BitVec.ofNat 32 i.val) : Ideal .f32)) (Ideal.ofBits FTy.f32 1115684864#32))

theorem v53_apply (p : Fin 4) (i : Fin 64) : val_main_v53 (F := Ideal) (ix2 p i) = Ideal.cos (angle p i) := by
  unfold val_main_v53 val_main_v52 val_main_v51 val_main_v50 val_main_v49 val_main_v48 val_main_v47 val_main_v46 val_main_v45
    val_main_v44 val_main_v43 val_main_v42 val_main_v41 val_main_v2 val_main_v1 val_main_v0 val_main_c val_main_cst_5 val_main_cst_6
  clean_types
  pointwise
  rfl

theorem v55_apply (p : Fin 4) (i : Fin 64) : val_main_v55 (F := Ideal) (ix2 p i) = Ideal.sin (angle p i) := by
  unfold val_main_v55 val_main_v52 val_main_v51 val_main_v50 val_main_v49 val_main_v48 val_main_v47 val_main_v46 val_main_v45
    val_main_v44 val_main_v43 val_main_v42 val_main_v41 val_main_v2 val_main_v1 val_main_v0 val_main_c val_main_cst_5 val_main_cst_6
  clean_types
  pointwise
  rfl

/-- Each pair of a row and a column of the flat results, as token and head. -/
abbrev sq (r : Fin 512) : Fin 128 := ⟨r.val / 4, by omega⟩
abbrev at_ (r : Fin 512) : Fin 4 := ⟨r.val % 4, by omega⟩

theorem tok_at (r : Fin 512) : tok (sq r) (at_ r) = r := Fin.ext (by simp only [tok, sq, at_]; omega)

/-- One row of the queries or keys: the heads of the projected row, each normed and turned by the row's angles. -/
def heads (o : ℕ) (h : o + 1024 ≤ 3072) (g : (⟨S1x128, .f32⟩ : BufTy).Contents (Elt Ideal)) (r : Fin 512) (k : Fin 1024) : EReal :=
  head (fun k => x0 (ix2 r k)) (fun k => x1 (ix2 1 k)) (cols x2 o h) (fun e => g (ix2 0 e))
    (cosTab fun i => val_main_v53 (F := Ideal) (ix2 (at_ r) i)) (sinTab fun i => val_main_v55 (F := Ideal) (ix2 (at_ r) i))
    (hd8 k) (el8 k)

/-- One row of the values. -/
def flats (r : Fin 512) (k : Fin 1024) : EReal :=
  proj (fun k => x0 (ix2 r k)) (fun k => x1 (ix2 1 k)) (cols x2 2048 (by omega)) k

theorem q4_apply (r : Fin 512) (k : Fin 1024) :
    val_main_v69 x0 x1 x2 x3 (ix4 (sq r) (at_ r) (hd8 k) (el8 k)) = heads x0 x1 x2 0 (by omega) x3 r k := by
  simp only [v69_apply, v40_apply, v22_apply, tok_at]
  rfl

theorem k4_apply (r : Fin 512) (k : Fin 1024) :
    val_main_v112 x0 x1 x2 x4 (ix4 (sq r) (at_ r) (hd8 k) (el8 k)) = heads x0 x1 x2 1024 (by omega) x4 r k := by
  simp only [v112_apply, v83_apply, v24_apply, tok_at]
  rfl

theorem v4_apply (r : Fin 512) (k : Fin 1024) :
    val_main_v26 x0 x1 x2 (ix4 (sq r) (at_ r) (hd8 k) (el8 k)) = flats x0 x1 x2 r k := by
  simp only [v26_apply, tok_at, at8_hd_el]
  rfl

theorem v113_apply (r : Fin 512) (k : Fin 1024) :
    val_main_v113 x0 x1 x2 x3 (ix2 r k) = heads x0 x1 x2 0 (by omega) x3 r k := by
  rw [← q4_apply]
  unfold val_main_v113
  clean_types
  pointwise
  rfl

theorem v114_apply (r : Fin 512) (k : Fin 1024) :
    val_main_v114 x0 x1 x2 x4 (ix2 r k) = heads x0 x1 x2 1024 (by omega) x4 r k := by
  rw [← k4_apply]
  unfold val_main_v114
  clean_types
  pointwise
  rfl

theorem v115_apply (r : Fin 512) (k : Fin 1024) :
    val_main_v115 x0 x1 x2 (ix2 r k) = flats x0 x1 x2 r k := by
  rw [← v4_apply]
  unfold val_main_v115
  clean_types
  pointwise
  rfl

end Cert.Reference6Ideal.Row

end
-- ==== Proof.QkvSample.lean ====
/- The attention layer's queries, keys and values of the sample's tokens: the three result arrays are the plain reference's. -/
module

public import proofs.«01_k».proof.Proof.QkvSampleBody
public import proofs.«01_k».proof.Proof.QkvSampleRef
public import Idealize.ShloMosaic.Lib.StableHlo.ReadAt

@[expose] public section

set_option maxRecDepth 16384

noncomputable section

namespace Cert.Kernel6Ideal.Final

open Cert.Kernel6Ideal Cert.Kernel6Ideal.Gen Cert.FfnRow Cert.QkvRow Idealize.ShloMosaic Idealize.ShloMosaic.TcCoe
  Idealize.SL.Sem
open Cert.Reference6Ideal.Row (cols heads flats at_)

variable (m : (ℓ : Loc nD τ sig) → Buf (Elt Ideal) ℓ) (c : Dev nD)

/-- The host's preparations, read at an index: slices of the arguments, the format change being the identity. -/
theorem w_norm (k : Fin 1024) :
    V m c main_v28 (ix2 0 k) = m (c, main_arg1) (ix2 1 k) := by
  unfold V
  after_reads_at

theorem w_q (k f : Fin 1024) : V m c main_v31 (ix2 k f) = cols (m (c, main_arg2)) 0 (by omega) k f := by
  unfold V
  after_reads_at
  simp only [cols, Nat.zero_add]

theorem w_k (k f : Fin 1024) : V m c main_v34 (ix2 k f) = cols (m (c, main_arg2)) 1024 (by omega) k f := by
  unfold V
  after_reads_at
  rfl

theorem w_v (k f : Fin 1024) : V m c main_v37 (ix2 k f) = cols (m (c, main_arg2)) 2048 (by omega) k f := by
  unfold V
  after_reads_at
  rfl

theorem w_gq (e : Fin 128) : V m c main_v39 (ix2 0 e) = m (c, main_arg3) (ix2 0 e) := by
  unfold V
  after_reads_at

theorem w_gk (e : Fin 128) : V m c main_v41 (ix2 0 e) = m (c, main_arg4) (ix2 0 e) := by
  unfold V
  after_reads_at

/-- The two tables of the angles: both halves of a head take the same 64 angles. -/
theorem w_cos (r : Fin 256) (e : Fin 128) :
    V m c main_v22 (ix2 r e) = cosTab (fun i => Cert.Reference6Ideal.Read.val_main_v53 (F := Ideal) (ix2 ⟨r.val % 4, by omega⟩ i)) e := by
  unfold V
  after_reads_at
  simp only [cosTab, Cert.Reference6Ideal.Row.v53_apply]
  split
  · rename_i h
    rw [show half e = ⟨e.val, h⟩ from Fin.ext (by simp only [half]; omega)]
    after_reads_at
    rfl
  · rename_i h
    rw [show half e = ⟨e.val - 64, by omega⟩ from Fin.ext (by simp only [half]; omega)]
    after_reads_at
    rfl

theorem w_sin (r : Fin 256) (e : Fin 128) :
    V m c main_v25 (ix2 r e) = sinTab (fun i => Cert.Reference6Ideal.Read.val_main_v55 (F := Ideal) (ix2 ⟨r.val % 4, by omega⟩ i)) e := by
  unfold V
  after_reads_at
  simp only [sinTab, Cert.Reference6Ideal.Row.v55_apply]
  split
  · rename_i h
    rw [show half e = ⟨e.val, h⟩ from Fin.ext (by simp only [half]; omega)]
    after_reads_at
    rfl
  · rename_i h
    rw [show half e = ⟨e.val - 64, by omega⟩ from Fin.ext (by simp only [half]; omega)]
    after_reads_at
    rfl

/-- Row `r` of the point's rows. -/
abbrev row (t : Fin cfg0.N) (r : Fin 256) : Fin 512 :=
  ⟨t.val * 256 + r.val, by have := t.isLt; have : cfg0.N = 2 := rfl; omega⟩

/-- A point holds whole sequences of 4 tokens. -/
theorem at_row (t : Fin cfg0.N) (r : Fin 256) : at_ (row t r) = ⟨r.val % 4, by omega⟩ :=
  Fin.ext (by simp only [at_, row]; omega)

/-- Where the windows stand at a grid point: row block `t`, or the whole table; the tables of the angles are the same at every point. -/
theorem idx (t : Fin cfg0.N) : win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0]
    ∧ win0_10.index t = ![t.val, 0] ∧ win0_11.index t = ![t.val, 0] := by
  revert t
  decide +kernel

/-- The blocks each grid point reads. -/
theorem blk0 (t : Fin cfg0.N) (r : Fin 256) (k : Fin 1024) :
    iblk m c 0 t (ix2 r k) = m (c, main_arg0) (ix2 (row t r) k) := by
  blk_ext [iblk, V, idx t]

theorem blk1 (t : Fin cfg0.N) (k : Fin 1024) : iblk m c 1 t (ix2 0 k) = m (c, main_arg1) (ix2 1 k) := by
  refine Eq.trans ?_ (w_norm m c _)
  blk_ext [iblk, idx t]

theorem blk2 (t : Fin cfg0.N) (k f : Fin 1024) : iblk m c 2 t (ix2 k f) = cols (m (c, main_arg2)) 0 (by omega) k f := by
  refine Eq.trans ?_ (w_q m c _ _)
  blk_ext [iblk, idx t]

theorem blk3 (t : Fin cfg0.N) (k f : Fin 1024) : iblk m c 3 t (ix2 k f) = cols (m (c, main_arg2)) 1024 (by omega) k f := by
  refine Eq.trans ?_ (w_k m c _ _)
  blk_ext [iblk, idx t]

theorem blk4 (t : Fin cfg0.N) (k f : Fin 1024) : iblk m c 4 t (ix2 k f) = cols (m (c, main_arg2)) 2048 (by omega) k f := by
  refine Eq.trans ?_ (w_v m c _ _)
  blk_ext [iblk, idx t]

theorem blk5 (t : Fin cfg0.N) (e : Fin 128) : iblk m c 5 t (ix2 0 e) = m (c, main_arg3) (ix2 0 e) := by
  refine Eq.trans ?_ (w_gq m c _)
  blk_ext [iblk, idx t]

theorem blk6 (t : Fin cfg0.N) (e : Fin 128) : iblk m c 6 t (ix2 0 e) = m (c, main_arg4) (ix2 0 e) := by
  refine Eq.trans ?_ (w_gk m c _)
  blk_ext [iblk, idx t]

theorem blk7 (t : Fin cfg0.N) (r : Fin 256) (e : Fin 128) : iblk m c 7 t (ix2 r e)
    = cosTab (fun i => Cert.Reference6Ideal.Read.val_main_v53 (F := Ideal) (ix2 (at_ (row t r)) i)) e := by
  rw [at_row]
  refine Eq.trans ?_ (w_cos m c _ _)
  blk_ext [iblk, idx t]

theorem blk8 (t : Fin cfg0.N) (r : Fin 256) (e : Fin 128) : iblk m c 8 t (ix2 r e)
    = sinTab (fun i => Cert.Reference6Ideal.Read.val_main_v55 (F := Ideal) (ix2 (at_ (row t r)) i)) e := by
  rw [at_row]
  refine Eq.trans ?_ (w_sin m c _ _)
  blk_ext [iblk, idx t]

/-- A point's queries, keys and values are the reference's at its rows. -/
theorem spun_q (t : Fin cfg0.N) (r : Fin 256) (k : Fin 1024) :
    Body.spun (iblk m c 0 t) (iblk m c 1 t) (iblk m c 2 t) (iblk m c 5 t) (iblk m c 7 t) (iblk m c 8 t) r k
      = heads (m (c, main_arg0)) (m (c, main_arg1)) (m (c, main_arg2)) 0 (by omega) (m (c, main_arg3)) (row t r) k := by
  unfold Body.spun heads
  simp only [blk0, blk1, blk2, blk5, blk7, blk8]

theorem spun_k (t : Fin cfg0.N) (r : Fin 256) (k : Fin 1024) :
    Body.spun (iblk m c 0 t) (iblk m c 1 t) (iblk m c 3 t) (iblk m c 6 t) (iblk m c 7 t) (iblk m c 8 t) r k
      = heads (m (c, main_arg0)) (m (c, main_arg1)) (m (c, main_arg2)) 1024 (by omega) (m (c, main_arg4)) (row t r) k := by
  unfold Body.spun heads
  simp only [blk0, blk1, blk3, blk6, blk7, blk8]

theorem vals_v (t : Fin cfg0.N) (r : Fin 256) (k : Fin 1024) :
    Body.vals (iblk m c 0 t) (iblk m c 1 t) (iblk m c 4 t) r k
      = flats (m (c, main_arg0)) (m (c, main_arg1)) (m (c, main_arg2)) (row t r) k := by
  unfold Body.vals flats
  simp only [blk0, blk1, blk4]

theorem final9 : (dats m 0 c).arrAt 9 cfg0.N = Cert.Reference6Ideal.Read.val_main_v113 (F := Ideal) (m (c, main_arg0)) (m (c, main_arg1)) (m (c, main_arg2)) (m (c, main_arg3)) := by
  refine (dats m 0 c).arrAt_eq_of_covers 9 _ (by decide +kernel) fun t hf y => ?_
  rw [after0_9]
  idx_vars y
  blk_simp
  have e : ((cfg0.win 9).blk t).view.emb (ix2 y0 y1) = ix2 (row t y0) y1 := by
    blk_ext [idx t]
  erw [e]
  rw [Cert.Reference6Ideal.Row.v113_apply, Body.q_apply, spun_q]

theorem final10 : (dats m 0 c).arrAt 10 cfg0.N = Cert.Reference6Ideal.Read.val_main_v114 (F := Ideal) (m (c, main_arg0)) (m (c, main_arg1)) (m (c, main_arg2)) (m (c, main_arg4)) := by
  refine (dats m 0 c).arrAt_eq_of_covers 10 _ (by decide +kernel) fun t hf y => ?_
  rw [after0_10]
  idx_vars y
  blk_simp
  have e : ((cfg0.win 10).blk t).view.emb (ix2 y0 y1) = ix2 (row t y0) y1 := by
    blk_ext [idx t]
  erw [e]
  rw [Cert.Reference6Ideal.Row.v114_apply, Body.k_apply, spun_k]

theorem final11 : (dats m 0 c).arrAt 11 cfg0.N = Cert.Reference6Ideal.Read.val_main_v115 (F := Ideal) (m (c, main_arg0)) (m (c, main_arg1)) (m (c, main_arg2)) := by
  refine (dats m 0 c).arrAt_eq_of_covers 11 _ (by decide +kernel) fun t hf y => ?_
  rw [after0_11]
  idx_vars y
  blk_simp
  have e : ((cfg0.win 11).blk t).view.emb (ix2 y0 y1) = ix2 (row t y0) y1 := by
    blk_ext [idx t]
  erw [e]
  rw [Cert.Reference6Ideal.Row.v115_apply, Body.v_apply, vals_v]

/-- The projection's whole run: its results are the reference's, its arguments are kept. -/
theorem run (ρ : Dev nD → PrngReg) : θ_run defs (onTc (τ := τ) (main (F := Ideal))) ⟨m, fun _ => 0, ρ⟩ fun r => ∀ c : Dev nD,
    r.2.mem ((c : Thread nD τ).loc main_v42_0) = Cert.Reference6Ideal.Read.val_main_v113 (F := Ideal) (m (c, main_arg0)) (m (c, main_arg1)) (m (c, main_arg2)) (m (c, main_arg3))
    ∧ r.2.mem ((c : Thread nD τ).loc main_v42_1) = Cert.Reference6Ideal.Read.val_main_v114 (F := Ideal) (m (c, main_arg0)) (m (c, main_arg1)) (m (c, main_arg2)) (m (c, main_arg4))
    ∧ r.2.mem ((c : Thread nD τ).loc main_v42_2) = Cert.Reference6Ideal.Read.val_main_v115 (F := Ideal) (m (c, main_arg0)) (m (c, main_arg1)) (m (c, main_arg2))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) := by
  refine (θ_run defs _ _).mono (fun r h c => ?_) (Cert.Kernel6Ideal.Value.run_blocks m ρ)
  rw [← final9, ← final10, ← final11]
  exact h c

end Cert.Kernel6Ideal.Final

end
-- ==== Proof.Claims.lean ====
/- Each program's value claim, and the frames of the plain references, from the runs the other modules prove. -/
module

public import proofs.«01_k».proof.Defs
public import proofs.«01_k».proof.Proof.AttnSample
public import proofs.«01_k».proof.Proof.AttnFfn
public import proofs.«01_k».proof.Proof.MlstmFfn
public import proofs.«01_k».proof.Proof.Proj
public import proofs.«01_k».proof.Proof.Qkv
public import proofs.«01_k».proof.Proof.QkvSample
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run

@[expose] public section

set_option maxRecDepth 16384

noncomputable section

namespace Cert.Proof

open Idealize.ShloMosaic Idealize.SL.Sem

/-- The attention layer's output projection and feed-forward block, on the sample's rows: the reference ends with its arguments kept and no semaphore held. -/
theorem frame_r1 : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The attention layer's output projection and feed-forward block, on the sample's rows: from equal arguments kernel and reference end with equal results. -/
theorem value1 : Cert.algebraic_KernelIdeal_ReferenceIdeal := by
  intro m g m' g' _ hag
  refine ⟨fun c => Cert.ReferenceIdeal.Read.val_main_v28 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Final.run m g, (θ_run Cert.ReferenceIdeal.defs _ _).mono (fun r h c => ?_) (Cert.ReferenceIdeal.Value.run (F := Ideal) m' g')⟩
  obtain ⟨e0, e1, e2, e3, e4, e5⟩ := hag c
  obtain ⟨r0, kept⟩ := h c
  exact ⟨r0.trans ((Cert.ReferenceIdeal.Read.val_main_v28_eq m' c).trans (by rw [e0, e1, e2, e3, e4, e5])), kept⟩

/-- The attention layer's output projection and feed-forward block: the reference ends with its arguments kept and no semaphore held. -/
theorem frame_r2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The attention layer's output projection and feed-forward block: from equal arguments kernel and reference end with equal results. -/
theorem value2 : Cert.algebraic_Kernel2Ideal_Reference2Ideal := by
  intro m g m' g' _ hag
  refine ⟨fun c => Cert.Reference2Ideal.Read.val_main_v28 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)),
    Cert.Kernel2Ideal.Final.run m g, (θ_run Cert.Reference2Ideal.defs _ _).mono (fun r h c => ?_) (Cert.Reference2Ideal.Value.run (F := Ideal) m' g')⟩
  obtain ⟨e0, e1, e2, e3, e4, e5⟩ := hag c
  obtain ⟨r0, kept⟩ := h c
  exact ⟨r0.trans ((Cert.Reference2Ideal.Read.val_main_v28_eq m' c).trans (by rw [e0, e1, e2, e3, e4, e5])), kept⟩

/-- The recurrent layer's output projection and feed-forward block: the reference ends with its arguments kept and no semaphore held. -/
theorem frame_r3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The recurrent layer's output projection and feed-forward block: from equal arguments kernel and reference end with equal results. -/
theorem value3 : Cert.algebraic_Kernel3Ideal_Reference3Ideal := by
  intro m g m' g' _ hag
  refine ⟨fun c => Cert.Reference3Ideal.Read.val_main_v52 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)),
    Cert.Kernel3Ideal.Final.run m g, (θ_run Cert.Reference3Ideal.defs _ _).mono (fun r h c => ?_) (Cert.Reference3Ideal.Value.run (F := Ideal) m' g')⟩
  obtain ⟨e0, e1, e2, e3, e4, e5, e6, e7⟩ := hag c
  obtain ⟨r0, kept⟩ := h c
  exact ⟨r0.trans ((Cert.Reference3Ideal.Read.val_main_v52_eq m' c).trans (by rw [e0, e1, e2, e3, e4, e5, e6, e7])), kept⟩

/-- The recurrent layer's input projection: the reference ends with its arguments kept and no semaphore held. -/
theorem frame_r4 : Cert.quiescent_Reference4Ideal := fun m ρ _ =>
  (θ_run Cert.Reference4Ideal.defs _ _).mono (fun r h => ⟨fun c => (h c).2.2.2.2.2, sem_eq_zero_of_no_sems (by decide) r.2⟩)
    (Cert.Reference4Ideal.Value.run (F := Ideal) m ρ)

/-- The recurrent layer's input projection: from equal arguments kernel and reference end with equal results. -/
theorem value4 : Cert.algebraic_Kernel4Ideal_Reference4Ideal := by
  intro m g m' g' _ hag
  refine ⟨fun c => Cert.Reference4Ideal.Read.val_main_v17 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)),
    fun c => Cert.Reference4Ideal.Read.val_main_v18 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)),
    fun c => Cert.Reference4Ideal.Read.val_main_v19 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)),
    fun c => Cert.Reference4Ideal.Read.val_main_v20 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)),
    fun c => Cert.Reference4Ideal.Read.val_main_v22 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)),
    Cert.Kernel4Ideal.Final.run m g, (θ_run Cert.Reference4Ideal.defs _ _).mono (fun r h c => ?_) (Cert.Reference4Ideal.Value.run (F := Ideal) m' g')⟩
  obtain ⟨e0, e1, e2⟩ := hag c
  obtain ⟨r0, r1, r2, r3, r4, kept⟩ := h c
  exact ⟨r0.trans ((Cert.Reference4Ideal.Read.val_main_v17_eq _ _ _).trans (by rw [e0, e1, e2])),
    r1.trans ((Cert.Reference4Ideal.Read.val_main_v18_eq _ _ _).trans (by rw [e0, e1, e2])),
    r2.trans ((Cert.Reference4Ideal.Read.val_main_v19_eq _ _ _).trans (by rw [e0, e1, e2])),
    r3.trans ((Cert.Reference4Ideal.Read.val_main_v20_eq _ _ _).trans (by rw [e0, e1, e2])),
    r4.trans ((Cert.Reference4Ideal.Read.val_main_v22_eq _ _ _).trans (by rw [e0, e1, e2])), kept⟩

/-- The attention layer's queries, keys and values: the reference ends with its arguments kept and no semaphore held. -/
theorem frame_r5 : Cert.quiescent_Reference5Ideal := fun m ρ _ =>
  (θ_run Cert.Reference5Ideal.defs _ _).mono (fun r h => ⟨fun c => (h c).2.2.2.2.2.2, sem_eq_zero_of_no_sems (by decide) r.2⟩)
    (Cert.Reference5Ideal.Value.run (F := Ideal) m ρ)

/-- The attention layer's queries, keys and values: from equal arguments kernel and reference end with equal results. -/
theorem value5 : Cert.algebraic_Kernel5Ideal_Reference5Ideal := by
  intro m g m' g' _ hag
  refine ⟨fun c => Cert.Reference5Ideal.Read.val_main_v120 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)),
    fun c => Cert.Reference5Ideal.Read.val_main_v121 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg4)),
    fun c => Cert.Reference5Ideal.Read.val_main_v122 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)),
    fun c => Cert.Reference5Ideal.Read.val_main_v124 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg4)),
    fun c => Cert.Reference5Ideal.Read.val_main_v125 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)),
    fun c => Cert.Reference5Ideal.Read.val_main_v127 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg4)),
    Cert.Kernel5Ideal.Final.run m g, (θ_run Cert.Reference5Ideal.defs _ _).mono (fun r h c => ?_) (Cert.Reference5Ideal.Value.run (F := Ideal) m' g')⟩
  obtain ⟨e0, e1, e2, e3, e4⟩ := hag c
  obtain ⟨r0, r1, r2, r3, r4, r5, kept⟩ := h c
  exact ⟨r0.trans ((Cert.Reference5Ideal.Read.val_main_v120_eq m' c).trans (by rw [e0, e1, e2, e3])),
    r1.trans ((Cert.Reference5Ideal.Read.val_main_v121_eq m' c).trans (by rw [e0, e1, e2, e4])),
    r2.trans ((Cert.Reference5Ideal.Read.val_main_v122_eq _ _ _).trans (by rw [e0, e1, e2])),
    r3.trans ((Cert.Reference5Ideal.Read.val_main_v124_eq m' c).trans (by rw [e0, e1, e2, e4])),
    r4.trans ((Cert.Reference5Ideal.Read.val_main_v125_eq _ _ _).trans (by rw [e0, e1, e2])),
    r5.trans ((Cert.Reference5Ideal.Read.val_main_v127_eq m' c).trans (by rw [e0, e1, e2, e4])), kept⟩

/-- The attention layer's queries, keys and values of the sample's tokens: the reference ends with its arguments kept and no semaphore held. -/
theorem frame_r6 : Cert.quiescent_Reference6Ideal := fun m ρ _ =>
  (θ_run Cert.Reference6Ideal.defs _ _).mono (fun r h => ⟨fun c => (h c).2.2.2, sem_eq_zero_of_no_sems (by decide) r.2⟩)
    (Cert.Reference6Ideal.Value.run (F := Ideal) m ρ)

/-- The attention layer's queries, keys and values of the sample's tokens: from equal arguments kernel and reference end with equal results. -/
theorem value6 : Cert.algebraic_Kernel6Ideal_Reference6Ideal := by
  intro m g m' g' _ hag
  refine ⟨fun c => Cert.Reference6Ideal.Read.val_main_v113 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)),
    fun c => Cert.Reference6Ideal.Read.val_main_v114 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg4)),
    fun c => Cert.Reference6Ideal.Read.val_main_v115 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)),
    Cert.Kernel6Ideal.Final.run m g, (θ_run Cert.Reference6Ideal.defs _ _).mono (fun r h c => ?_) (Cert.Reference6Ideal.Value.run (F := Ideal) m' g')⟩
  obtain ⟨e0, e1, e2, e3, e4⟩ := hag c
  obtain ⟨r0, r1, r2, kept⟩ := h c
  exact ⟨r0.trans ((Cert.Reference6Ideal.Read.val_main_v113_eq m' c).trans (by rw [e0, e1, e2, e3])),
    r1.trans ((Cert.Reference6Ideal.Read.val_main_v114_eq m' c).trans (by rw [e0, e1, e2, e4])),
    r2.trans ((Cert.Reference6Ideal.Read.val_main_v115_eq _ _ _).trans (by rw [e0, e1, e2])), kept⟩

end Cert.Proof

end
-- ==== Proof.lean ====
/- The proof of the certificate's claim: for each of the six programs its facts, the frames of kernel and reference,
   that the ideal reading is the program's own, and that kernel and reference end with equal results. -/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.Kernel2.Frame
public import proofs.«01_k».proof.Proof.Gen.Kernel2Ideal.Frame
public import proofs.«01_k».proof.Proof.Gen.Reference2Ideal
public import proofs.«01_k».proof.Proof.Gen.Kernel3.Frame
public import proofs.«01_k».proof.Proof.Gen.Kernel3Ideal.Frame
public import proofs.«01_k».proof.Proof.Gen.Reference3Ideal
public import proofs.«01_k».proof.Proof.Gen.Kernel4.Frame
public import proofs.«01_k».proof.Proof.Gen.Kernel4Ideal.Frame
public import proofs.«01_k».proof.Proof.Gen.Reference4Ideal
public import proofs.«01_k».proof.Proof.Gen.Kernel5.Frame
public import proofs.«01_k».proof.Proof.Gen.Kernel5Ideal.Frame
public import proofs.«01_k».proof.Proof.Gen.Reference5Ideal
public import proofs.«01_k».proof.Proof.Gen.Kernel6.Frame
public import proofs.«01_k».proof.Proof.Gen.Kernel6Ideal.Frame
public import proofs.«01_k».proof.Proof.Gen.Reference6Ideal
public import proofs.«01_k».proof.Proof.Claims

@[expose] public section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    fun m ρ _ => Cert.Kernel.Gen.frame m ρ, fun m ρ _ => Cert.KernelIdeal.Gen.frame m ρ, frame_r1,
    fun m ρ _ => Cert.Kernel2.Gen.frame m ρ, fun m ρ _ => Cert.Kernel2Ideal.Gen.frame m ρ, frame_r2,
    fun m ρ _ => Cert.Kernel3.Gen.frame m ρ, fun m ρ _ => Cert.Kernel3Ideal.Gen.frame m ρ, frame_r3,
    fun m ρ _ => Cert.Kernel4.Gen.frame m ρ, fun m ρ _ => Cert.Kernel4Ideal.Gen.frame m ρ, frame_r4,
    fun m ρ _ => Cert.Kernel5.Gen.frame m ρ, fun m ρ _ => Cert.Kernel5Ideal.Gen.frame m ρ, frame_r5,
    fun m ρ _ => Cert.Kernel6.Gen.frame m ρ, fun m ρ _ => Cert.Kernel6Ideal.Gen.frame m ρ, frame_r6,
    trivial, value1,
    trivial, value2,
    trivial, value3,
    trivial, value4,
    trivial, value5,
    trivial, value6⟩

end Cert.Proof

end
